-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v19)) (v1 : (c : Dev Cert.KernelIdeal.nD) → Buf (Elt Ideal) ((c.tc : Thread Cert.KernelIdeal.nD Cert.KernelIdeal.τ).loc Cert.KernelIdeal.main_v20)) (v2 : (c : Dev Cert.KernelIdeal.nD) → Buf (Elt Ideal) ((c.tc : Thread Cert.KernelIdeal.nD Cert.KernelIdeal.τ).loc Cert.KernelIdeal.main_v18_2)) (v3 : (c : Dev Cert.KernelIdeal.nD) → Buf (Elt Ideal) ((c.tc : Thread Cert.KernelIdeal.nD Cert.KernelIdeal.τ).loc Cert.KernelIdeal.main_v21)) (v4 : (c : Dev Cert.KernelIdeal.nD) → Buf (Elt Ideal) ((c.tc : Thread Cert.KernelIdeal.nD Cert.KernelIdeal.τ).loc Cert.KernelIdeal.main_v22)) (v5 : (c : Dev Cert.KernelIdeal.nD) → Buf (Elt Ideal) ((c.tc : Thread Cert.KernelIdeal.nD Cert.KernelIdeal.τ).loc Cert.KernelIdeal.main_v23)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v19) = v0 c
          ∧ r.2.mem ((c.tc : Thread Cert.KernelIdeal.nD Cert.KernelIdeal.τ).loc Cert.KernelIdeal.main_v20) = v1 c
          ∧ r.2.mem ((c.tc : Thread Cert.KernelIdeal.nD Cert.KernelIdeal.τ).loc Cert.KernelIdeal.main_v18_2) = v2 c
          ∧ r.2.mem ((c.tc : Thread Cert.KernelIdeal.nD Cert.KernelIdeal.τ).loc Cert.KernelIdeal.main_v21) = v3 c
          ∧ r.2.mem ((c.tc : Thread Cert.KernelIdeal.nD Cert.KernelIdeal.τ).loc Cert.KernelIdeal.main_v22) = v4 c
          ∧ r.2.mem ((c.tc : Thread Cert.KernelIdeal.nD Cert.KernelIdeal.τ).loc Cert.KernelIdeal.main_v23) = v5 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v13) = v0 c
          ∧ r.2.mem ((c.tc : Thread Cert.ReferenceIdeal.nD Cert.ReferenceIdeal.τ).loc Cert.ReferenceIdeal.main_v18) = v1 c
          ∧ r.2.mem ((c.tc : Thread Cert.ReferenceIdeal.nD Cert.ReferenceIdeal.τ).loc Cert.ReferenceIdeal.main_v37) = v2 c
          ∧ r.2.mem ((c.tc : Thread Cert.ReferenceIdeal.nD Cert.ReferenceIdeal.τ).loc Cert.ReferenceIdeal.main_v9) = v3 c
          ∧ r.2.mem ((c.tc : Thread Cert.ReferenceIdeal.nD Cert.ReferenceIdeal.τ).loc Cert.ReferenceIdeal.main_v23) = v4 c
          ∧ r.2.mem ((c.tc : Thread Cert.ReferenceIdeal.nD Cert.ReferenceIdeal.τ).loc Cert.ReferenceIdeal.main_v41) = v5 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S8x16x256x784 : Shape := ⟨4, ![8, 16, 256, 784]⟩
abbrev S8x16x256x256 : Shape := ⟨4, ![8, 16, 256, 256]⟩
abbrev S8x16x10x256 : Shape := ⟨4, ![8, 16, 10, 256]⟩
abbrev S8x16x256 : Shape := ⟨3, ![8, 16, 256]⟩
abbrev S8x16x10 : Shape := ⟨3, ![8, 16, 10]⟩
abbrev S3x16 : Shape := ⟨2, ![3, 16]⟩
abbrev S784x16 : Shape := ⟨2, ![784, 16]⟩
abbrev S10x16 : Shape := ⟨2, ![10, 16]⟩
abbrev S64x2x8x25088 : Shape := ⟨4, ![64, 2, 8, 25088]⟩
abbrev S64x2x256x256 : Shape := ⟨4, ![64, 2, 256, 256]⟩
abbrev S16x3 : Shape := ⟨2, ![16, 3]⟩
abbrev S16x1x3 : Shape := ⟨3, ![16, 1, 3]⟩
abbrev S16x784 : Shape := ⟨2, ![16, 784]⟩
abbrev S1x16x1x784 : Shape := ⟨4, ![1, 16, 1, 784]⟩
abbrev S1x16x256x784 : Shape := ⟨4, ![1, 16, 256, 784]⟩
abbrev S16x200704 : Shape := ⟨2, ![16, 200704]⟩
abbrev S16x8x25088 : Shape := ⟨3, ![16, 8, 25088]⟩
abbrev S16x10 : Shape := ⟨2, ![16, 10]⟩
abbrev S16x1x10 : Shape := ⟨3, ![16, 1, 10]⟩
abbrev S16x10x1 : Shape := ⟨3, ![16, 10, 1]⟩
abbrev S8x16x1x256 : Shape := ⟨4, ![8, 16, 1, 256]⟩
abbrev S8x16x1x10 : Shape := ⟨4, ![8, 16, 1, 10]⟩
abbrev S6x2x8x25088 : Shape := ⟨4, ![6, 2, 8, 25088]⟩
abbrev S6x2x256x256 : Shape := ⟨4, ![6, 2, 256, 256]⟩
abbrev S6 : Shape := ⟨1, ![6]⟩
abbrev S_ : Shape := ⟨0, ![]⟩
abbrev S1 : Shape := ⟨1, ![1]⟩
abbrev S1x2x8x25088 : Shape := ⟨4, ![1, 2, 8, 25088]⟩
abbrev S2x8x25088 : Shape := ⟨3, ![2, 8, 25088]⟩
abbrev S16x1x1 : Shape := ⟨3, ![16, 1, 1]⟩
abbrev S16 : Shape := ⟨1, ![16]⟩
abbrev S1x2x256x256 : Shape := ⟨4, ![1, 2, 256, 256]⟩
abbrev S2x256x256 : Shape := ⟨3, ![2, 256, 256]⟩
abbrev S1x16x1x1 : Shape := ⟨4, ![1, 16, 1, 1]⟩
abbrev S1x16x10x1 : Shape := ⟨4, ![1, 16, 10, 1]⟩
abbrev S1x16x1x10 : Shape := ⟨4, ![1, 16, 1, 10]⟩
abbrev S2x1x1 : Shape := ⟨3, ![2, 1, 1]⟩
abbrev S2 : Shape := ⟨1, ![2]⟩

abbrev nBuf : Space → Nat
  | .hbm => 39
  | .vmem => 17
  | .smem => 0
  | _ => 0

abbrev bufTy : (tb : Table) → Fin (tcTables nBuf tb) → BufTy
  | .hbm, ⟨0, _⟩ => ⟨S8x16x256x784, .f32⟩
  | .hbm, ⟨1, _⟩ => ⟨S8x16x256x256, .f32⟩
  | .hbm, ⟨2, _⟩ => ⟨S8x16x10x256, .f32⟩
  | .hbm, ⟨3, _⟩ => ⟨S8x16x256, .f32⟩
  | .hbm, ⟨4, _⟩ => ⟨S8x16x256, .f32⟩
  | .hbm, ⟨5, _⟩ => ⟨S8x16x10, .f32⟩
  | .hbm, ⟨6, _⟩ => ⟨S3x16, .f32⟩
  | .hbm, ⟨7, _⟩ => ⟨S3x16, .f32⟩
  | .hbm, ⟨8, _⟩ => ⟨S784x16, .f32⟩
  | .hbm, ⟨9, _⟩ => ⟨S10x16, .f32⟩
  | .hbm, ⟨10, _⟩ => ⟨S64x2x8x25088, .f32⟩
  | .hbm, ⟨11, _⟩ => ⟨S64x2x256x256, .f32⟩
  | .hbm, ⟨12, _⟩ => ⟨S16x3, .f32⟩
  | .hbm, ⟨13, _⟩ => ⟨S16x1x3, .f32⟩
  | .hbm, ⟨14, _⟩ => ⟨S16x3, .f32⟩
  | .hbm, ⟨15, _⟩ => ⟨S16x1x3, .f32⟩
  | .hbm, ⟨16, _⟩ => ⟨S16x784, .f32⟩
  | .hbm, ⟨17, _⟩ => ⟨S1x16x1x784, .f32⟩
  | .hbm, ⟨18, _⟩ => ⟨S1x16x256x784, .f32⟩
  | .hbm, ⟨19, _⟩ => ⟨S16x200704, .f32⟩
  | .hbm, ⟨20, _⟩ => ⟨S16x8x25088, .f32⟩
  | .hbm, ⟨21, _⟩ => ⟨S16x10, .f32⟩
  | .hbm, ⟨22, _⟩ => ⟨S16x1x10, .f32⟩
  | .hbm, ⟨23, _⟩ => ⟨S16x10, .f32⟩
  | .hbm, ⟨24, _⟩ => ⟨S16x10x1, .f32⟩
  | .hbm, ⟨25, _⟩ => ⟨S8x16x1x256, .f32⟩
  | .hbm, ⟨26, _⟩ => ⟨S8x16x1x256, .f32⟩
  | .hbm, ⟨27, _⟩ => ⟨S8x16x1x10, .f32⟩
  | .hbm, ⟨28, _⟩ => ⟨S64x2x8x25088, .f32⟩
  | .hbm, ⟨29, _⟩ => ⟨S64x2x256x256, .f32⟩
  | .hbm, ⟨30, _⟩ => ⟨S8x16x10x256, .f32⟩
  | .hbm, ⟨31, _⟩ => ⟨S8x16x1x256, .f32⟩
  | .hbm, ⟨32, _⟩ => ⟨S8x16x1x256, .f32⟩
  | .hbm, ⟨33, _⟩ => ⟨S8x16x1x10, .f32⟩
  | .hbm, ⟨34, _⟩ => ⟨S8x16x256x784, .f32⟩
  | .hbm, ⟨35, _⟩ => ⟨S8x16x256x256, .f32⟩
  | .hbm, ⟨36, _⟩ => ⟨S8x16x256, .f32⟩
  | .hbm, ⟨37, _⟩ => ⟨S8x16x256, .f32⟩
  | .hbm, ⟨38, _⟩ => ⟨S8x16x10, .f32⟩
  | .local _ .vmem, ⟨0, _⟩ => ⟨S6x2x8x25088, .f32⟩
  | .local _ .vmem, ⟨1, _⟩ => ⟨S6x2x8x25088, .f32⟩
  | .local _ .vmem, ⟨2, _⟩ => ⟨S6x2x256x256, .f32⟩
  | .local _ .vmem, ⟨3, _⟩ => ⟨S6x2x256x256, .f32⟩
  | .local _ .vmem, ⟨4, _⟩ => ⟨S8x16x10x256, .f32⟩
  | .local _ .vmem, ⟨5, _⟩ => ⟨S8x16x10x256, .f32⟩
  | .local _ .vmem, ⟨6, _⟩ => ⟨S8x16x1x256, .f32⟩
  | .local _ .vmem, ⟨7, _⟩ => ⟨S8x16x1x256, .f32⟩
  | .local _ .vmem, ⟨8, _⟩ => ⟨S8x16x1x10, .f32⟩
  | .local _ .vmem, ⟨9, _⟩ => ⟨S8x16x1x256, .f32⟩
  | .local _ .vmem, ⟨10, _⟩ => ⟨S8x16x1x256, .f32⟩
  | .local _ .vmem, ⟨11, _⟩ => ⟨S8x16x1x10, .f32⟩
  | .local _ .vmem, ⟨12, _⟩ => ⟨S16x1x3, .f32⟩
  | .local _ .vmem, ⟨13, _⟩ => ⟨S16x1x3, .f32⟩
  | .local _ .vmem, ⟨14, _⟩ => ⟨S16x1x10, .f32⟩
  | .local _ .vmem, ⟨15, _⟩ => ⟨S16x10x1, .f32⟩
  | .local _ .vmem, ⟨16, _⟩ => ⟨S16x8x25088, .f32⟩
  | _, _ => ⟨S8x16x256x784, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 31 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | _ => false

abbrev sig : RefSig :=
  ofTc nBuf bufTy 0 31 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18_0 : Ref sig .tc := ⟨.hbm, 28, rfl⟩
abbrev main_v18_1 : Ref sig .tc := ⟨.hbm, 29, rfl⟩
abbrev main_v18_2 : Ref sig .tc := ⟨.hbm, 30, rfl⟩
abbrev main_v18_3 : Ref sig .tc := ⟨.hbm, 31, rfl⟩
abbrev main_v18_4 : Ref sig .tc := ⟨.hbm, 32, rfl⟩
abbrev main_v18_5 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev cc0_scratch0 : Ref sig .tc := ⟨.vmem, 0, rfl⟩
abbrev cc0_scratch1 : Ref sig .tc := ⟨.vmem, 1, rfl⟩
abbrev cc0_scratch2 : Ref sig .tc := ⟨.vmem, 2, rfl⟩
abbrev cc0_scratch3 : Ref sig .tc := ⟨.vmem, 3, rfl⟩
abbrev cc0_scratch4 : Ref sig .tc := ⟨.vmem, 4, rfl⟩
abbrev cc0_scratch5 : Ref sig .tc := ⟨.vmem, 5, rfl⟩
abbrev cc0_scratch6 : Ref sig .tc := ⟨.vmem, 6, rfl⟩
abbrev cc0_scratch7 : Ref sig .tc := ⟨.vmem, 7, rfl⟩
abbrev cc0_scratch8 : Ref sig .tc := ⟨.vmem, 8, rfl⟩
abbrev cc0_scratch9 : Ref sig .tc := ⟨.vmem, 9, rfl⟩
abbrev cc0_scratch10 : Ref sig .tc := ⟨.vmem, 10, rfl⟩
abbrev cc0_scratch11 : Ref sig .tc := ⟨.vmem, 11, rfl⟩
abbrev cc0_scratch12 : Ref sig .tc := ⟨.vmem, 12, rfl⟩
abbrev cc0_scratch13 : Ref sig .tc := ⟨.vmem, 13, rfl⟩
abbrev cc0_scratch14 : Ref sig .tc := ⟨.vmem, 14, rfl⟩
abbrev cc0_scratch15 : Ref sig .tc := ⟨.vmem, 15, rfl⟩
abbrev cc0_scratch16 : Ref sig .tc := ⟨.vmem, 16, rfl⟩

abbrev nD : Nat := 1
abbrev τ : Topo := Topo.v7x

variable {F : FTy → Type} [FloatOps F]

abbrev grid0 : Pipeline.Grid := .none

@[reducible] def k0_t1_loop : Scf.Loop 32 :=
  let c0_i32_56 : BitVec 32 := 0#32
  let c64_i32 : BitVec 32 := 64#32
  let v45 : BitVec 32 := Scalar.addi c0_i32_56 c64_i32
  let c1_i32_57 : BitVec 32 := 1#32
  ⟨c0_i32_56, v45, c1_i32_57⟩
def k0_off1 (k0_t1 : Fin k0_t1_loop.trips) : Fin 1 → Nat :=
  let c0_i32_56 : BitVec 32 := 0#32
  let c1_i32_57 : BitVec 32 := 1#32
  let arg45 : BitVec 32 := Scf.iv c0_i32_56 c1_i32_57 k0_t1
  let c6_i32 : BitVec 32 := 6#32
  let v199 : BitVec 32 := Scalar.remsi arg45 c6_i32
  ![v199.toNat]
def k0_off2 (k0_t1 : Fin k0_t1_loop.trips) : Fin 4 → Nat :=
  let c0_i32_56 : BitVec 32 := 0#32
  let c1_i32_57 : BitVec 32 := 1#32
  let arg45 : BitVec 32 := Scf.iv c0_i32_56 c1_i32_57 k0_t1
  let c6_i32 : BitVec 32 := 6#32
  let v199 : BitVec 32 := Scalar.remsi arg45 c6_i32
  let c0_i32_268 : BitVec 32 := 0#32
  let c0_i32_269 : BitVec 32 := 0#32
  let c0_i32_270 : BitVec 32 := 0#32
  ![v199.toNat, 0, 0, 0]
def k0_off3 (k0_t1 : Fin k0_t1_loop.trips) : Fin 4 → Nat :=
  let c0_i32_56 : BitVec 32 := 0#32
  let c1_i32_57 : BitVec 32 := 1#32
  let arg45 : BitVec 32 := Scf.iv c0_i32_56 c1_i32_57 k0_t1
  let c0_i32_271 : BitVec 32 := 0#32
  let c0_i32_272 : BitVec 32 := 0#32
  let c0_i32_273 : BitVec 32 := 0#32
  ![arg45.toNat, 0, 0, 0]
def k0_cond1 (k0_t1 : Fin k0_t1_loop.trips) : BitVec 1 :=
  let c0_i32_56 : BitVec 32 := 0#32
  let c1_i32_57 : BitVec 32 := 1#32
  let arg45 : BitVec 32 := Scf.iv c0_i32_56 c1_i32_57 k0_t1
  let c6_i32_274 : BitVec 32 := 6#32
  let v208 : BitVec 1 := Scalar.cmpi .sge arg45 c6_i32_274
  let v209 : BitVec 32 := Scalar.extui v208
  let c0_i32_275 : BitVec 32 := 0#32
  let v210 : BitVec 1 := Scalar.cmpi .ne v209 c0_i32_275
  v210

def k0_off4 (k0_t1 : Fin k0_t1_loop.trips) : Fin 1 → Nat :=
  let c0_i32_56 : BitVec 32 := 0#32
  let c1_i32_57 : BitVec 32 := 1#32
  let arg45 : BitVec 32 := Scf.iv c0_i32_56 c1_i32_57 k0_t1
  let c6_i32 : BitVec 32 := 6#32
  let v199 : BitVec 32 := Scalar.remsi arg45 c6_i32
  ![v199.toNat]
def k0_off5 (k0_t1 : Fin k0_t1_loop.trips) : Fin 4 → Nat :=
  let c0_i32_56 : BitVec 32 := 0#32
  let c1_i32_57 : BitVec 32 := 1#32
  let arg45 : BitVec 32 := Scf.iv c0_i32_56 c1_i32_57 k0_t1
  let c0_i32_293 : BitVec 32 := 0#32
  let c0_i32_294 : BitVec 32 := 0#32
  let c0_i32_295 : BitVec 32 := 0#32
  ![arg45.toNat, 0, 0, 0]
def k0_off6 (k0_t1 : Fin k0_t1_loop.trips) : Fin 4 → Nat :=
  let c0_i32_56 : BitVec 32 := 0#32
  let c1_i32_57 : BitVec 32 := 1#32
  let arg45 : BitVec 32 := Scf.iv c0_i32_56 c1_i32_57 k0_t1
  let c6_i32 : BitVec 32 := 6#32
  let v199 : BitVec 32 := Scalar.remsi arg45 c6_i32
  let c0_i32_296 : BitVec 32 := 0#32
  let c0_i32_297 : BitVec 32 := 0#32
  let c0_i32_298 : BitVec 32 := 0#32
  ![v199.toNat, 0, 0, 0]
def k0_off7 (k0_t1 : Fin k0_t1_loop.trips) : Fin 4 → Nat :=
  let c0_i32_56 : BitVec 32 := 0#32
  let c1_i32_57 : BitVec 32 := 1#32
  let arg45 : BitVec 32 := Scf.iv c0_i32_56 c1_i32_57 k0_t1
  let c6_i32 : BitVec 32 := 6#32
  let v199 : BitVec 32 := Scalar.remsi arg45 c6_i32
  let v211 : Index := Scalar.indexCast v199
  let c0_276 : Index := 0#32
  let c0_277 : Index := 0#32
  let c0_278 : Index := 0#32
  ![v211.toNat, 0, 0, 0]
def k0_off8 (k0_t1 : Fin k0_t1_loop.trips) : Fin 3 → Nat :=
  let c0_i32_56 : BitVec 32 := 0#32
  let c1_i32_57 : BitVec 32 := 1#32
  let arg45 : BitVec 32 := Scf.iv c0_i32_56 c1_i32_57 k0_t1
  let c8_i32 : BitVec 32 := 8#32
  let v200 : BitVec 32 := Scalar.remsi arg45 c8_i32
  let c2_i32_267 : BitVec 32 := 2#32
  let v201 : BitVec 32 := Scalar.muli v200 c2_i32_267
  let v214 : Index := Scalar.indexCast v201
  let c0_279 : Index := 0#32
  let c0_280 : Index := 0#32
  ![v214.toNat, 0, 0]
def k0_cond2 (k0_t1 : Fin k0_t1_loop.trips) : BitVec 1 :=
  let c0_i32_56 : BitVec 32 := 0#32
  let c1_i32_57 : BitVec 32 := 1#32
  let arg45 : BitVec 32 := Scf.iv c0_i32_56 c1_i32_57 k0_t1
  let c6_i32_290 : BitVec 32 := 6#32
  let v227 : BitVec 32 := Scalar.addi arg45 c6_i32_290
  let c64_i32_291 : BitVec 32 := 64#32
  let v228 : BitVec 1 := Scalar.cmpi .slt v227 c64_i32_291
  let v229 : BitVec 32 := Scalar.extui v228
  let c0_i32_292 : BitVec 32 := 0#32
  let v230 : BitVec 1 := Scalar.cmpi .ne v229 c0_i32_292
  v230

def k0_off9 (k0_t1 : Fin k0_t1_loop.trips) : Fin 1 → Nat :=
  let c0_i32_56 : BitVec 32 := 0#32
  let c1_i32_57 : BitVec 32 := 1#32
  let arg45 : BitVec 32 := Scf.iv c0_i32_56 c1_i32_57 k0_t1
  let c6_i32 : BitVec 32 := 6#32
  let v199 : BitVec 32 := Scalar.remsi arg45 c6_i32
  ![v199.toNat]
def k0_off10 (k0_t1 : Fin k0_t1_loop.trips) : Fin 4 → Nat :=
  let c0_i32_56 : BitVec 32 := 0#32
  let c1_i32_57 : BitVec 32 := 1#32
  let arg45 : BitVec 32 := Scf.iv c0_i32_56 c1_i32_57 k0_t1
  let c6_i32 : BitVec 32 := 6#32
  let v199 : BitVec 32 := Scalar.remsi arg45 c6_i32
  let c0_i32_294 : BitVec 32 := 0#32
  let c0_i32_295 : BitVec 32 := 0#32
  let c0_i32_296 : BitVec 32 := 0#32
  ![v199.toNat, 0, 0, 0]
def k0_off11 (k0_t1 : Fin k0_t1_loop.trips) : Fin 4 → Nat :=
  let c0_i32_56 : BitVec 32 := 0#32
  let c1_i32_57 : BitVec 32 := 1#32
  let arg45 : BitVec 32 := Scf.iv c0_i32_56 c1_i32_57 k0_t1
  let c6_i32_293 : BitVec 32 := 6#32
  let v231 : BitVec 32 := Scalar.addi arg45 c6_i32_293
  let c0_i32_297 : BitVec 32 := 0#32
  let c0_i32_298 : BitVec 32 := 0#32
  let c0_i32_299 : BitVec 32 := 0#32
  ![v231.toNat, 0, 0, 0]
@[reducible] def k0_t2_loop : Scf.Loop 32 :=
  let c0_i32_161 : BitVec 32 := 0#32
  let c64_i32_162 : BitVec 32 := 64#32
  let v126 : BitVec 32 := Scalar.addi c0_i32_161 c64_i32_162
  let c1_i32_163 : BitVec 32 := 1#32
  ⟨c0_i32_161, v126, c1_i32_163⟩
def k0_off12 (k0_t2 : Fin k0_t2_loop.trips) : Fin 1 → Nat :=
  let c0_i32_161 : BitVec 32 := 0#32
  let c1_i32_163 : BitVec 32 := 1#32
  let arg45 : BitVec 32 := Scf.iv c0_i32_161 c1_i32_163 k0_t2
  let c6_i32 : BitVec 32 := 6#32
  let v199 : BitVec 32 := Scalar.remsi arg45 c6_i32
  ![v199.toNat]
def k0_off13 (k0_t2 : Fin k0_t2_loop.trips) : Fin 4 → Nat :=
  let c0_i32_161 : BitVec 32 := 0#32
  let c1_i32_163 : BitVec 32 := 1#32
  let arg45 : BitVec 32 := Scf.iv c0_i32_161 c1_i32_163 k0_t2
  let c6_i32 : BitVec 32 := 6#32
  let v199 : BitVec 32 := Scalar.remsi arg45 c6_i32
  let c0_i32_268 : BitVec 32 := 0#32
  let c0_i32_269 : BitVec 32 := 0#32
  let c0_i32_270 : BitVec 32 := 0#32
  ![v199.toNat, 0, 0, 0]
def k0_off14 (k0_t2 : Fin k0_t2_loop.trips) : Fin 4 → Nat :=
  let c0_i32_161 : BitVec 32 := 0#32
  let c1_i32_163 : BitVec 32 := 1#32
  let arg45 : BitVec 32 := Scf.iv c0_i32_161 c1_i32_163 k0_t2
  let c0_i32_271 : BitVec 32 := 0#32
  let c0_i32_272 : BitVec 32 := 0#32
  let c0_i32_273 : BitVec 32 := 0#32
  ![arg45.toNat, 0, 0, 0]
def k0_cond3 (k0_t2 : Fin k0_t2_loop.trips) : BitVec 1 :=
  let c0_i32_161 : BitVec 32 := 0#32
  let c1_i32_163 : BitVec 32 := 1#32
  let arg45 : BitVec 32 := Scf.iv c0_i32_161 c1_i32_163 k0_t2
  let c6_i32_274 : BitVec 32 := 6#32
  let v208 : BitVec 1 := Scalar.cmpi .sge arg45 c6_i32_274
  let v209 : BitVec 32 := Scalar.extui v208
  let c0_i32_275 : BitVec 32 := 0#32
  let v210 : BitVec 1 := Scalar.cmpi .ne v209 c0_i32_275
  v210

def k0_off15 (k0_t2 : Fin k0_t2_loop.trips) : Fin 1 → Nat :=
  let c0_i32_161 : BitVec 32 := 0#32
  let c1_i32_163 : BitVec 32 := 1#32
  let arg45 : BitVec 32 := Scf.iv c0_i32_161 c1_i32_163 k0_t2
  let c6_i32 : BitVec 32 := 6#32
  let v199 : BitVec 32 := Scalar.remsi arg45 c6_i32
  ![v199.toNat]
def k0_off16 (k0_t2 : Fin k0_t2_loop.trips) : Fin 4 → Nat :=
  let c0_i32_161 : BitVec 32 := 0#32
  let c1_i32_163 : BitVec 32 := 1#32
  let arg45 : BitVec 32 := Scf.iv c0_i32_161 c1_i32_163 k0_t2
  let c0_i32_293 : BitVec 32 := 0#32
  let c0_i32_294 : BitVec 32 := 0#32
  let c0_i32_295 : BitVec 32 := 0#32
  ![arg45.toNat, 0, 0, 0]
def k0_off17 (k0_t2 : Fin k0_t2_loop.trips) : Fin 4 → Nat :=
  let c0_i32_161 : BitVec 32 := 0#32
  let c1_i32_163 : BitVec 32 := 1#32
  let arg45 : BitVec 32 := Scf.iv c0_i32_161 c1_i32_163 k0_t2
  let c6_i32 : BitVec 32 := 6#32
  let v199 : BitVec 32 := Scalar.remsi arg45 c6_i32
  let c0_i32_296 : BitVec 32 := 0#32
  let c0_i32_297 : BitVec 32 := 0#32
  let c0_i32_298 : BitVec 32 := 0#32
  ![v199.toNat, 0, 0, 0]
def k0_off18 (k0_t2 : Fin k0_t2_loop.trips) : Fin 3 → Nat :=
  let c0_i32_161 : BitVec 32 := 0#32
  let c1_i32_163 : BitVec 32 := 1#32
  let arg45 : BitVec 32 := Scf.iv c0_i32_161 c1_i32_163 k0_t2
  let c8_i32 : BitVec 32 := 8#32
  let v200 : BitVec 32 := Scalar.remsi arg45 c8_i32
  let c2_i32_267 : BitVec 32 := 2#32
  let v201 : BitVec 32 := Scalar.muli v200 c2_i32_267
  let v211 : Index := Scalar.indexCast v201
  let c0_276 : Index := 0#32
  let c1_277 : Index := 1#32
  ![v211.toNat, 0, 1]
def k0_off19 (k0_t2 : Fin k0_t2_loop.trips) : Fin 4 → Nat :=
  let c0_i32_161 : BitVec 32 := 0#32
  let c1_i32_163 : BitVec 32 := 1#32
  let arg45 : BitVec 32 := Scf.iv c0_i32_161 c1_i32_163 k0_t2
  let c6_i32 : BitVec 32 := 6#32
  let v199 : BitVec 32 := Scalar.remsi arg45 c6_i32
  let v214 : Index := Scalar.indexCast v199
  let c0_278 : Index := 0#32
  let c0_279 : Index := 0#32
  let c0_280 : Index := 0#32
  ![v214.toNat, 0, 0, 0]
def k0_cond4 (k0_t2 : Fin k0_t2_loop.trips) : BitVec 1 :=
  let c0_i32_161 : BitVec 32 := 0#32
  let c1_i32_163 : BitVec 32 := 1#32
  let arg45 : BitVec 32 := Scf.iv c0_i32_161 c1_i32_163 k0_t2
  let c6_i32_290 : BitVec 32 := 6#32
  let v230 : BitVec 32 := Scalar.addi arg45 c6_i32_290
  let c64_i32_291 : BitVec 32 := 64#32
  let v231 : BitVec 1 := Scalar.cmpi .slt v230 c64_i32_291
  let v232 : BitVec 32 := Scalar.extui v231
  let c0_i32_292 : BitVec 32 := 0#32
  let v233 : BitVec 1 := Scalar.cmpi .ne v232 c0_i32_292
  v233

def k0_off20 (k0_t2 : Fin k0_t2_loop.trips) : Fin 1 → Nat :=
  let c0_i32_161 : BitVec 32 := 0#32
  let c1_i32_163 : BitVec 32 := 1#32
  let arg45 : BitVec 32 := Scf.iv c0_i32_161 c1_i32_163 k0_t2
  let c6_i32 : BitVec 32 := 6#32
  let v199 : BitVec 32 := Scalar.remsi arg45 c6_i32
  ![v199.toNat]
def k0_off21 (k0_t2 : Fin k0_t2_loop.trips) : Fin 4 → Nat :=
  let c0_i32_161 : BitVec 32 := 0#32
  let c1_i32_163 : BitVec 32 := 1#32
  let arg45 : BitVec 32 := Scf.iv c0_i32_161 c1_i32_163 k0_t2
  let c6_i32 : BitVec 32 := 6#32
  let v199 : BitVec 32 := Scalar.remsi arg45 c6_i32
  let c0_i32_294 : BitVec 32 := 0#32
  let c0_i32_295 : BitVec 32 := 0#32
  let c0_i32_296 : BitVec 32 := 0#32
  ![v199.toNat, 0, 0, 0]
def k0_off22 (k0_t2 : Fin k0_t2_loop.trips) : Fin 4 → Nat :=
  let c0_i32_161 : BitVec 32 := 0#32
  let c1_i32_163 : BitVec 32 := 1#32
  let arg45 : BitVec 32 := Scf.iv c0_i32_161 c1_i32_163 k0_t2
  let c6_i32_293 : BitVec 32 := 6#32
  let v234 : BitVec 32 := Scalar.addi arg45 c6_i32_293
  let c0_i32_297 : BitVec 32 := 0#32
  let c0_i32_298 : BitVec 32 := 0#32
  let c0_i32_299 : BitVec 32 := 0#32
  ![v234.toNat, 0, 0, 0]
-- ==== ReferenceIdeal.lean ====
abbrev S8x16x256x784 : Shape := ⟨4, ![8, 16, 256, 784]⟩
abbrev S8x16x256x256 : Shape := ⟨4, ![8, 16, 256, 256]⟩
abbrev S8x16x10x256 : Shape := ⟨4, ![8, 16, 10, 256]⟩
abbrev S8x16x256 : Shape := ⟨3, ![8, 16, 256]⟩
abbrev S8x16x10 : Shape := ⟨3, ![8, 16, 10]⟩
abbrev S3x16 : Shape := ⟨2, ![3, 16]⟩
abbrev S784x16 : Shape := ⟨2, ![784, 16]⟩
abbrev S10x16 : Shape := ⟨2, ![10, 16]⟩
abbrev S1x16 : Shape := ⟨2, ![1, 16]⟩
abbrev S16 : Shape := ⟨1, ![16]⟩
abbrev S1x16x1x1 : Shape := ⟨4, ![1, 16, 1, 1]⟩
abbrev S1x16x1 : Shape := ⟨3, ![1, 16, 1]⟩
abbrev S16x784 : Shape := ⟨2, ![16, 784]⟩
abbrev S1x16x1x784 : Shape := ⟨4, ![1, 16, 1, 784]⟩
abbrev S16x10 : Shape := ⟨2, ![16, 10]⟩
abbrev S1x16x10x1 : Shape := ⟨4, ![1, 16, 10, 1]⟩
abbrev S1x16x10 : Shape := ⟨3, ![1, 16, 10]⟩

abbrev nBuf : Space → Nat
  | .hbm => 52
  | .vmem => 0
  | .smem => 0
  | _ => 0

abbrev bufTy : (tb : Table) → Fin (tcTables nBuf tb) → BufTy
  | .hbm, ⟨0, _⟩ => ⟨S8x16x256x784, .f32⟩
  | .hbm, ⟨1, _⟩ => ⟨S8x16x256x256, .f32⟩
  | .hbm, ⟨2, _⟩ => ⟨S8x16x10x256, .f32⟩
  | .hbm, ⟨3, _⟩ => ⟨S8x16x256, .f32⟩
  | .hbm, ⟨4, _⟩ => ⟨S8x16x256, .f32⟩
  | .hbm, ⟨5, _⟩ => ⟨S8x16x10, .f32⟩
  | .hbm, ⟨6, _⟩ => ⟨S3x16, .f32⟩
  | .hbm, ⟨7, _⟩ => ⟨S3x16, .f32⟩
  | .hbm, ⟨8, _⟩ => ⟨S784x16, .f32⟩
  | .hbm, ⟨9, _⟩ => ⟨S10x16, .f32⟩
  | .hbm, ⟨10, _⟩ => ⟨S1x16, .f32⟩
  | .hbm, ⟨11, _⟩ => ⟨S16, .f32⟩
  | .hbm, ⟨12, _⟩ => ⟨S1x16x1x1, .f32⟩
  | .hbm, ⟨13, _⟩ => ⟨S8x16x256x784, .f32⟩
  | .hbm, ⟨14, _⟩ => ⟨S8x16x256x784, .f32⟩
  | .hbm, ⟨15, _⟩ => ⟨S1x16, .f32⟩
  | .hbm, ⟨16, _⟩ => ⟨S16, .f32⟩
  | .hbm, ⟨17, _⟩ => ⟨S1x16x1, .f32⟩
  | .hbm, ⟨18, _⟩ => ⟨S8x16x256, .f32⟩
  | .hbm, ⟨19, _⟩ => ⟨S8x16x256, .f32⟩
  | .hbm, ⟨20, _⟩ => ⟨S16x784, .f32⟩
  | .hbm, ⟨21, _⟩ => ⟨S1x16x1x784, .f32⟩
  | .hbm, ⟨22, _⟩ => ⟨S8x16x256x784, .f32⟩
  | .hbm, ⟨23, _⟩ => ⟨S8x16x256x784, .f32⟩
  | .hbm, ⟨24, _⟩ => ⟨S1x16, .f32⟩
  | .hbm, ⟨25, _⟩ => ⟨S16, .f32⟩
  | .hbm, ⟨26, _⟩ => ⟨S1x16x1x1, .f32⟩
  | .hbm, ⟨27, _⟩ => ⟨S8x16x256x256, .f32⟩
  | .hbm, ⟨28, _⟩ => ⟨S8x16x256x256, .f32⟩
  | .hbm, ⟨29, _⟩ => ⟨S1x16, .f32⟩
  | .hbm, ⟨30, _⟩ => ⟨S16, .f32⟩
  | .hbm, ⟨31, _⟩ => ⟨S1x16x1, .f32⟩
  | .hbm, ⟨32, _⟩ => ⟨S8x16x256, .f32⟩
  | .hbm, ⟨33, _⟩ => ⟨S8x16x256, .f32⟩
  | .hbm, ⟨34, _⟩ => ⟨S1x16, .f32⟩
  | .hbm, ⟨35, _⟩ => ⟨S16, .f32⟩
  | .hbm, ⟨36, _⟩ => ⟨S1x16x1x1, .f32⟩
  | .hbm, ⟨37, _⟩ => ⟨S8x16x10x256, .f32⟩
  | .hbm, ⟨38, _⟩ => ⟨S8x16x10x256, .f32⟩
  | .hbm, ⟨39, _⟩ => ⟨S1x16, .f32⟩
  | .hbm, ⟨40, _⟩ => ⟨S16, .f32⟩
  | .hbm, ⟨41, _⟩ => ⟨S1x16x1, .f32⟩
  | .hbm, ⟨42, _⟩ => ⟨S8x16x10, .f32⟩
  | .hbm, ⟨43, _⟩ => ⟨S8x16x10, .f32⟩
  | .hbm, ⟨44, _⟩ => ⟨S16x10, .f32⟩
  | .hbm, ⟨45, _⟩ => ⟨S1x16x10x1, .f32⟩
  | .hbm, ⟨46, _⟩ => ⟨S8x16x10x256, .f32⟩
  | .hbm, ⟨47, _⟩ => ⟨S8x16x10x256, .f32⟩
  | .hbm, ⟨48, _⟩ => ⟨S16x10, .f32⟩
  | .hbm, ⟨49, _⟩ => ⟨S1x16x10, .f32⟩
  | .hbm, ⟨50, _⟩ => ⟨S8x16x10, .f32⟩
  | .hbm, ⟨51, _⟩ => ⟨S8x16x10, .f32⟩
  | _, _ => ⟨S8x16x256x784, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩

abbrev nD : Nat := 1
abbrev τ : Topo := Topo.v7x

variable {F : FTy → Type} [FloatOps F]
-- ==== Proof.Stream.lean ====
/- The streams of blocks that the kernel's two loops move: blocks of an array read into the slots of a ring,
   and slots of a ring written behind into the blocks of an array. Nothing here names a program: a stream is
   stated over the buffers that it is given. -/
module

public import proofs.«01_k».proof.Proof.Gen.KernelIdeal.Skeleton
public import proofs.«01_k».proof.Proof.Gen.KernelIdeal.Loops
public import proofs.«01_k».proof.Proof.Gen.KernelIdeal.Frame
public import Idealize.ShloMosaic.Lib.Tactic
public import Idealize.ShloMosaic.Lib.Ring
public import Idealize.ShloMosaic.Lib.ViewIndex
public import Idealize.SL.BI.BigOpNat

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type}

/-- The resources that the proofs of this program are stated over. -/
abbrev MM (F : FTy → Type) : Type _ := MT nD τ sig Unit (Elt F) ℕ (Pipeline.UD sig nD τ) ℕ

local notation "EC" => countersEmb (U := Pipeline.UD sig nD τ)

/-- What the buffer under a memref holds. -/
abbrev CT (F : FTy → Type) (c : Dev nD) {sp : Space} {S : Shape} {e : EltTy} (M : Memref sig .tc sp S e) : Type :=
  Buf (Elt F) (M.view.loc (c : Thread nD τ))

/-- A memref's own elements, held whole. -/
abbrev own (c : Dev nD) {sp : Space} {S : Shape} {e : EltTy} (M : Memref sig .tc sp S e) (f : CT F c M) : sProp (MM F) :=
  M.view.loc (c : Thread nD τ) ↦[M.view.set]{fullShare} f

/-- Two contents that a memref reads alike are held alike. -/
theorem own_congr (c : Dev nD) {sp : Space} {S : Shape} {e : EltTy} (M : Memref sig .tc sp S e) {f g : CT F c M}
    (h : M.view.read (Elt F) f = M.view.read (Elt F) g) : own (F := F) c M f = own c M g :=
  pointsTo_congr fun i hi => by
    obtain ⟨x, -, rfl⟩ := Finset.mem_map.mp hi
    exact View.eq_of_read_eq (congrFun h x)

/-- A transfer in flight from `S`, holding `fs`, into `D`, which will read `V`. -/
def into (c : Dev nD) (sm : DmaSem sig) (N : ℕ) {sp sp' : Space} {B : Shape} {e : EltTy}
    (D : Memref sig .tc sp B e) (S : Memref sig .tc sp' B e) (V : B.Idx → Elt F e) (fs : CT F c S) : sProp (MM F) :=
  iprop(∃ g : CT F c D, ⌜D.view.read (Elt F) g = V⌝
    ∗ Transfers.Flight EC (c : Thread nD τ) (.dma sm) () N iprop(own c D g ∗ own c S fs))

/-! ## A stream of 64 blocks through a ring of six slots -/

/-- Blocks `lo ≤ b < hi` are under way (`pend`), the slots of blocks `hi ≤ b < lo + 6` are at rest (`free`), the
    blocks from `hi` on are still to come (`todo`) and those below `lo` are over (`over`). -/
def ring (pend free todo over : ℕ → sProp (MM F)) (lo hi : ℕ) : sProp (MM F) :=
  iprop(bigSep (Finset.Ico lo hi) pend ∗ bigSep (Finset.Ico hi (lo + 6)) free
    ∗ bigSep (Finset.Ico hi 64) todo ∗ bigSep (Finset.Ico 0 lo) over)

section Laws

variable {pend free todo over : ℕ → sProp (MM F)} {lo hi : ℕ}

/-- The oldest block under way ends: its slot comes to rest for the sixth block after it. -/
theorem ring_end (h : lo < hi) (h' : hi ≤ lo + 6) :
    ring pend free todo over lo hi ⊢ iprop(pend lo ∗ (free (lo + 6) -∗ over lo -∗ ring pend free todo over (lo + 1) hi)) := by
  unfold ring
  rw [bigSep_Ico_succ_bot h pend, show lo + 1 + 6 = lo + 6 + 1 by omega, bigSep_Ico_succ_top h' free,
    bigSep_Ico_succ_top (Nat.zero_le lo) over]
  iintro ⟨⟨Hp, Hps⟩, Hf, Ht, Ho⟩
  isplitl [Hp]; · iexact Hp
  iintro Hf' Ho'
  iframe Hps Hf' Hf Ht Ho' Ho

/-- The next block starts, in the slot at rest for it. -/
theorem ring_start (h : lo ≤ hi) (h' : hi < lo + 6) (h'' : hi < 64) :
    ring pend free todo over lo hi ⊢ iprop((free hi ∗ todo hi) ∗ (pend hi -∗ ring pend free todo over lo (hi + 1))) := by
  unfold ring
  rw [bigSep_Ico_succ_bot h' free, bigSep_Ico_succ_bot h'' todo, bigSep_Ico_succ_top h pend]
  iintro ⟨Hps, ⟨Hf, Hfs⟩, ⟨Ht, Hts⟩, Ho⟩
  isplitl [Hf Ht]; · iframe Hf Ht
  iintro Hp
  iframe Hp Hps Hfs Hts Ho

/-- The oldest block under way ends and the next one starts in its slot. -/
theorem ring_turn (h : hi = lo + 6) (h' : hi < 64) :
    ring pend free todo over lo hi ⊢ iprop((pend lo ∗ todo hi) ∗ (pend hi -∗ over lo -∗ ring pend free todo over (lo + 1) (hi + 1))) := by
  subst h
  unfold ring
  rw [bigSep_Ico_succ_bot (show lo < lo + 6 by omega) pend, bigSep_Ico_succ_bot h' todo,
    bigSep_Ico_succ_top (show lo + 1 ≤ lo + 6 by omega) pend, bigSep_Ico_succ_top (Nat.zero_le lo) over,
    show lo + 1 + 6 = lo + 6 + 1 by omega, Finset.Ico_self, Finset.Ico_self]
  iintro ⟨⟨Hp, Hps⟩, Hf, ⟨Ht, Hts⟩, Ho⟩
  isplitl [Hp Ht]; · iframe Hp Ht
  iintro Hp' Ho'
  iframe Hp' Hps Hf Hts Ho' Ho

/-- One trip of a loop that reads blocks through one ring (`p f t t`) and writes blocks behind through another
    (`p' f' t' o'`), from what the trip does with the blocks and slots that it touches. `R` is what else the trip needs, and
    `P Q` says that the trip leaves `Q`. -/
theorem ring_step {p f t p' f' t' o' : ℕ → sProp (MM F)} {R : sProp (MM F)} {k : ℕ} (hk : k < 64)
    {P : sProp (MM F) → sProp (MM F)}
    (mid : 6 ≤ k → k + 6 < 64 → ∀ Q, iprop((p k ∗ t (k + 6) ∗ p' (k - 6) ∗ t' k ∗ R)
      ∗ (p (k + 6) -∗ t k -∗ p' k -∗ o' (k - 6) -∗ R -∗ Q)) ⊢ P Q)
    (last : 6 ≤ k → ¬ k + 6 < 64 → ∀ Q, iprop((p k ∗ p' (k - 6) ∗ t' k ∗ R)
      ∗ (f (k + 6) -∗ t k -∗ p' k -∗ o' (k - 6) -∗ R -∗ Q)) ⊢ P Q)
    (first : ¬ 6 ≤ k → k + 6 < 64 → ∀ Q, iprop((p k ∗ t (k + 6) ∗ f' k ∗ t' k ∗ R)
      ∗ (p (k + 6) -∗ t k -∗ p' k -∗ R -∗ Q)) ⊢ P Q) :
    iprop(ring p f t t k (min (k + 6) 64) ∗ ring p' f' t' o' (k - 6) k ∗ R)
      ⊢ P iprop(ring p f t t (k + 1) (min (k + 1 + 6) 64) ∗ ring p' f' t' o' (k + 1 - 6) (k + 1) ∗ R) := by
  by_cases h1 : 6 ≤ k
  · rw [show k + 1 - 6 = k - 6 + 1 by omega]
    by_cases h2 : k + 6 < 64
    · rw [show min (k + 6) 64 = k + 6 by omega, show min (k + 1 + 6) 64 = k + 6 + 1 by omega]
      refine BIBase.Entails.trans ?_ (mid h1 h2 _)
      iintro ⟨Hr, Hw, HR⟩
      ihave ⟨⟨Hp, Ht⟩, Hr⟩ := (ring_turn (lo := k) rfl h2) $$ Hr
      ihave ⟨⟨Hq, Hu⟩, Hw⟩ := (ring_turn (lo := k - 6) (hi := k) (by omega) hk) $$ Hw
      isplitl [Hp Ht Hq Hu HR]; · iframe Hp Ht Hq Hu HR
      iintro Hp Ht Hq Hu HR
      isplitl [Hr Hp Ht]; · iapply Hr $$ Hp Ht
      isplitl [Hw Hq Hu]; · iapply Hw $$ Hq Hu
      iexact HR
    · rw [show min (k + 6) 64 = 64 by omega, show min (k + 1 + 6) 64 = 64 by omega]
      refine BIBase.Entails.trans ?_ (last h1 h2 _)
      iintro ⟨Hr, Hw, HR⟩
      ihave ⟨Hp, Hr⟩ := (ring_end (lo := k) (hi := 64) hk (by omega)) $$ Hr
      ihave ⟨⟨Hq, Hu⟩, Hw⟩ := (ring_turn (lo := k - 6) (hi := k) (by omega) hk) $$ Hw
      isplitl [Hp Hq Hu HR]; · iframe Hp Hq Hu HR
      iintro Hp Ht Hq Hu HR
      isplitl [Hr Hp Ht]; · iapply Hr $$ Hp Ht
      isplitl [Hw Hq Hu]; · iapply Hw $$ Hq Hu
      iexact HR
  · have h2 : k + 6 < 64 := by omega
    rw [show min (k + 6) 64 = k + 6 by omega, show min (k + 1 + 6) 64 = k + 6 + 1 by omega,
      show k - 6 = 0 by omega, show k + 1 - 6 = 0 by omega]
    refine BIBase.Entails.trans ?_ (first h1 h2 _)
    iintro ⟨Hr, Hw, HR⟩
    ihave ⟨⟨Hp, Ht⟩, Hr⟩ := (ring_turn (lo := k) rfl h2) $$ Hr
    ihave ⟨⟨Hq, Hu⟩, Hw⟩ := (ring_start (lo := 0) (hi := k) (by omega) (by omega) hk) $$ Hw
    isplitl [Hp Ht Hq Hu HR]; · iframe Hp Ht Hq Hu HR
    iintro Hp Ht Hq HR
    isplitl [Hr Hp Ht]; · iapply Hr $$ Hp Ht
    isplitl [Hw Hq]; · iapply Hw $$ Hq
    iexact HR

end Laws

section Streams

variable (c : Dev nD) (cell : ℕ → DmaSem sig) (N : ℕ) {B : Shape} {e : EltTy}
  (slot : ℕ → Memref sig .tc .vmem B e) (blk : ℕ → Memref sig .tc .hbm B e)

/-- A slot at rest: its counter at zero and its elements, whatever they hold. -/
abbrev slotFree (b : ℕ) : sProp (MM F) :=
  iprop(semVal ((c : Thread nD τ), SemLoc.dma (cell b)) 0 ∗ ∃ f : CT F c (slot b), own c (slot b) f)

/-- Block `b`, holding what `A` says. -/
abbrev owns (A : ∀ b, CT F c (blk b)) (b : ℕ) : sProp (MM F) := own c (blk b) (A b)

/-- Block `b`, whatever it holds. -/
abbrev anys (b : ℕ) : sProp (MM F) := iprop(∃ g : CT F c (blk b), own c (blk b) g)

/-- Block `b` on its way into its slot. -/
abbrev arrives (A : ∀ b, CT F c (blk b)) (b : ℕ) : sProp (MM F) :=
  into c (cell b) N (slot b) (blk b) ((blk b).view.read (Elt F) (A b)) (A b)

/-- Block `b` on its way out of its slot, to read as `G` does. -/
abbrev leaves (G : ∀ b, CT F c (blk b)) (b : ℕ) : sProp (MM F) :=
  iprop(∃ fs : CT F c (slot b), into c (cell b) N (blk b) (slot b) ((blk b).view.read (Elt F) (G b)) fs)

/-- Blocks of an array, holding `A`, read through the six slots of a ring. -/
abbrev rd (A : ∀ b, CT F c (blk b)) : ℕ → ℕ → sProp (MM F) :=
  ring (arrives c cell N slot blk A) (slotFree c cell slot) (owns c blk A) (owns c blk A)

/-- The six slots of a ring written behind into the blocks of an array, which end up reading as `G` does. -/
abbrev wr (G : ∀ b, CT F c (blk b)) : ℕ → ℕ → sProp (MM F) :=
  ring (leaves c cell N slot blk G) (slotFree c cell slot) (anys c blk) (owns c blk G)

end Streams

/-! ## The slots, blocks and cells of the two rings -/

/-- One cell of a six-cell semaphore array, by its offset. -/
abbrev cellAt (A : DmaSems sig S6) (o : Fin 1 → ℕ) (h : ∀ a, o a + S1.size a ≤ S6.size a) : DmaSem sig :=
  ((A.slice (Rect.unit (s := S6) o S1.size h)).squeeze S_ squeezes_S1_S_).sem

/-- The cell that block `b` uses. -/
abbrev cellF (A : DmaSems sig S6) (b : ℕ) : DmaSem sig :=
  cellAt A ![b % 6] (by intro a; fin_cases a; show b % 6 + 1 ≤ 6; omega)

abbrev slot0 (M : Memref sig .tc .vmem S6x2x8x25088 .f32) (o : Fin 4 → ℕ)
    (h : ∀ a, o a + S1x2x8x25088.size a ≤ S6x2x8x25088.size a) : Memref sig .tc .vmem S2x8x25088 .f32 :=
  (M.slice (Rect.unit (s := S6x2x8x25088) o S1x2x8x25088.size h) (fun _ => rfl)).squeeze S2x8x25088 squeezes_S1x2x8x25088_S2x8x25088

abbrev blk0 (M : Memref sig .tc .hbm S64x2x8x25088 .f32) (o : Fin 4 → ℕ)
    (h : ∀ a, o a + S1x2x8x25088.size a ≤ S64x2x8x25088.size a) : Memref sig .tc .hbm S2x8x25088 .f32 :=
  (M.slice (Rect.unit (s := S64x2x8x25088) o S1x2x8x25088.size h) (fun _ => rfl)).squeeze S2x8x25088 squeezes_S1x2x8x25088_S2x8x25088

abbrev slot1 (M : Memref sig .tc .vmem S6x2x256x256 .f32) (o : Fin 4 → ℕ)
    (h : ∀ a, o a + S1x2x256x256.size a ≤ S6x2x256x256.size a) : Memref sig .tc .vmem S2x256x256 .f32 :=
  (M.slice (Rect.unit (s := S6x2x256x256) o S1x2x256x256.size h) (fun _ => rfl)).squeeze S2x256x256 squeezes_S1x2x256x256_S2x256x256

abbrev blk1 (M : Memref sig .tc .hbm S64x2x256x256 .f32) (o : Fin 4 → ℕ)
    (h : ∀ a, o a + S1x2x256x256.size a ≤ S64x2x256x256.size a) : Memref sig .tc .hbm S2x256x256 .f32 :=
  (M.slice (Rect.unit (s := S64x2x256x256) o S1x2x256x256.size h) (fun _ => rfl)).squeeze S2x256x256 squeezes_S1x2x256x256_S2x256x256

abbrev slotF0 (M : Memref sig .tc .vmem S6x2x8x25088 .f32) (b : ℕ) : Memref sig .tc .vmem S2x8x25088 .f32 :=
  slot0 M ![b % 6, 0, 0, 0] (by intro a; fin_cases a <;> first | (show b % 6 + 1 ≤ 6; omega) | exact Nat.le_refl _)
abbrev blkF0 (M : Memref sig .tc .hbm S64x2x8x25088 .f32) (b : ℕ) : Memref sig .tc .hbm S2x8x25088 .f32 :=
  blk0 M ![b % 64, 0, 0, 0] (by intro a; fin_cases a <;> first | (show b % 64 + 1 ≤ 64; omega) | exact Nat.le_refl _)
abbrev slotF1 (M : Memref sig .tc .vmem S6x2x256x256 .f32) (b : ℕ) : Memref sig .tc .vmem S2x256x256 .f32 :=
  slot1 M ![b % 6, 0, 0, 0] (by intro a; fin_cases a <;> first | (show b % 6 + 1 ≤ 6; omega) | exact Nat.le_refl _)
abbrev blkF1 (M : Memref sig .tc .hbm S64x2x256x256 .f32) (b : ℕ) : Memref sig .tc .hbm S2x256x256 .f32 :=
  blk1 M ![b % 64, 0, 0, 0] (by intro a; fin_cases a <;> first | (show b % 64 + 1 ≤ 64; omega) | exact Nat.le_refl _)

abbrev aA : Memref sig .tc .hbm S64x2x8x25088 .f32 := Memref.whole main_v0
abbrev aO : Memref sig .tc .hbm S64x2x8x25088 .f32 := Memref.whole main_v18_0
abbrev sI : Memref sig .tc .vmem S6x2x8x25088 .f32 := Memref.whole cc0_scratch0
abbrev sO : Memref sig .tc .vmem S6x2x8x25088 .f32 := Memref.whole cc0_scratch1
abbrev aA1 : Memref sig .tc .hbm S64x2x256x256 .f32 := Memref.whole main_v1
abbrev aO1 : Memref sig .tc .hbm S64x2x256x256 .f32 := Memref.whole main_v18_1
abbrev sI1 : Memref sig .tc .vmem S6x2x256x256 .f32 := Memref.whole cc0_scratch2
abbrev sO1 : Memref sig .tc .vmem S6x2x256x256 .f32 := Memref.whole cc0_scratch3

/-- Layer 0's blocks, read. -/
abbrev rd0 (c : Dev nD) (A : CT F c aA) : ℕ → ℕ → sProp (MM F) :=
  rd c (cellF cc0_scratch17) 50176 (slotF0 sI) (blkF0 aA) fun _ => A
/-- Layer 0's blocks, written. -/
abbrev wr0 (c : Dev nD) (G : CT F c aO) : ℕ → ℕ → sProp (MM F) :=
  wr c (cellF cc0_scratch18) 50176 (slotF0 sO) (blkF0 aO) fun _ => G
/-- Layer 1's blocks, read. -/
abbrev rd1 (c : Dev nD) (A : CT F c aA1) : ℕ → ℕ → sProp (MM F) :=
  rd c (cellF cc0_scratch19) 16384 (slotF1 sI1) (blkF1 aA1) fun _ => A
/-- Layer 1's blocks, written. -/
abbrev wr1 (c : Dev nD) (G : CT F c aO1) : ℕ → ℕ → sProp (MM F) :=
  wr c (cellF cc0_scratch20) 16384 (slotF1 sO1) (blkF1 aO1) fun _ => G

end Cert.KernelIdeal.Hand
end
-- ==== Proof.Trip0.lean ====
/- One trip of the first loop: a block of layer 0 arrives, is added to its tile, and leaves. -/
module

public import proofs.«01_k».proof.Proof.Stream
public import Idealize.ShloMosaic.Lib.Pipeline.Value

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "EC" => countersEmb (U := Pipeline.UD sig nD τ)

/-- The first loop's trip, at the kernel's own buffers. -/
abbrev body0 (v36 : Vec F S16x8x25088 .f32) (v39 : FVec F S16x1x1 .f32) (k : Fin k0_t1_loop.trips) :=
  k0_t1_body (F := F) (Memref.whole main_v0) (Memref.isWhole_whole _) (Memref.whole main_v1) (Memref.isWhole_whole _) (Memref.whole main_arg2) (Memref.isWhole_whole _) (Memref.whole main_v15) (Memref.isWhole_whole _) (Memref.whole main_v16) (Memref.isWhole_whole _) (Memref.whole main_v17) (Memref.isWhole_whole _) (Memref.whole main_v3) (Memref.isWhole_whole _) (Memref.whole main_v5) (Memref.isWhole_whole _) (Memref.whole main_v10) (Memref.isWhole_whole _) (Memref.whole main_v12) (Memref.isWhole_whole _) (Memref.whole main_v14) (Memref.isWhole_whole _) (Memref.whole main_v18_0) (Memref.isWhole_whole _) (Memref.whole main_v18_1) (Memref.isWhole_whole _) (Memref.whole main_v18_2) (Memref.isWhole_whole _) (Memref.whole main_v18_3) (Memref.isWhole_whole _) (Memref.whole main_v18_4) (Memref.isWhole_whole _) (Memref.whole main_v18_5) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) (Memref.whole cc0_scratch14) (Memref.isWhole_whole _) (Memref.whole cc0_scratch15) (Memref.isWhole_whole _) (Memref.whole cc0_scratch16) (Memref.isWhole_whole _) cc0_scratch17 cc0_scratch18 cc0_scratch19 cc0_scratch20 cc0_scratch21 cc0_scratch22 cc0_scratch23 cc0_scratch24 cc0_scratch25 cc0_scratch26 cc0_scratch27 v36 v39 k ()

/-- The tile that layer 0's blocks are added to. -/
abbrev tile : Memref sig .tc .vmem S16x8x25088 .f32 := Memref.whole cc0_scratch16

section Names

variable (c : Dev nD) (o : Fin 4 → ℕ)

abbrev oA (h : ∀ a, o a + S1x2x8x25088.size a ≤ S64x2x8x25088.size a) (f : CT F c aA) : sProp (MM F) := own c (blk0 aA o h) f
abbrev oO (h : ∀ a, o a + S1x2x8x25088.size a ≤ S64x2x8x25088.size a) (f : CT F c aO) : sProp (MM F) := own c (blk0 aO o h) f
abbrev pI (h : ∀ a, o a + S1x2x8x25088.size a ≤ S6x2x8x25088.size a) (f : CT F c sI) : sProp (MM F) := own c (slot0 sI o h) f
abbrev pO (h : ∀ a, o a + S1x2x8x25088.size a ≤ S6x2x8x25088.size a) (f : CT F c sO) : sProp (MM F) := own c (slot0 sO o h) f

end Names

/-! ## The values of a trip -/

section Values

variable (c : Dev nD)

/-- What leaves a slot that was stored into whole. -/
theorem slot_read_store (fs : CT F c sO) (o o' : Fin 4 → ℕ) (h : ∀ a, o a + S1x2x8x25088.size a ≤ S6x2x8x25088.size a)
    (h' : ∀ a, o' a + S1x2x8x25088.size a ≤ S6x2x8x25088.size a) (e : o = o') (P : S1x2x8x25088.Idx → Elt F .f32) :
    (slot0 sO o h).view.read (Elt F) (View.write (Elt F) (sO.access (Rect.unit (s := S6x2x8x25088) o' S1x2x8x25088.size h')) fs P Finset.univ)
      = shapeCast S2x8x25088 P shapeCasts_S1x2x8x25088_S2x8x25088 := by
  subst e
  refine (Memref.read_squeeze_slice sO (Rect.unit (s := S6x2x8x25088) o S1x2x8x25088.size h) (fun _ => rfl) _
    shapeCasts_S1x2x8x25088_S2x8x25088 _).trans ?_
  refine congrArg (fun v => shapeCast S2x8x25088 v shapeCasts_S1x2x8x25088_S2x8x25088) (funext fun x => ?_)
  exact View.read_write_of_mem (v := sO.access (Rect.unit (s := S6x2x8x25088) o S1x2x8x25088.size h)) (Val := Elt F) _ _ (Finset.mem_univ _)

/-- What a slot holds, loaded whole. -/
theorem slot_load (f : CT F c sI) (o o' : Fin 4 → ℕ) (h : ∀ a, o a + S1x2x8x25088.size a ≤ S6x2x8x25088.size a)
    (h' : ∀ a, o' a + S1x2x8x25088.size a ≤ S6x2x8x25088.size a) (e : o = o') :
    shapeCast S2x8x25088 (sI.view.readAt (Elt F) (Rect.unit (s := S6x2x8x25088) o' S1x2x8x25088.size h').toLoadRect f) shapeCasts_S1x2x8x25088_S2x8x25088
      = (slot0 sI o h).view.read (Elt F) f := by
  subst e
  rfl

/-- The trip's sum. -/
theorem pay1_eq (v : Vec F S1x2x8x25088 .f32) (w : Vec F S2x8x25088 .f32) :
    shapeCast S2x8x25088 (k0_pay1 v w) shapeCasts_S1x2x8x25088_S2x8x25088
      = addf (shapeCast S2x8x25088 v shapeCasts_S1x2x8x25088_S2x8x25088) w := by
  unfold k0_pay1
  exact Idealize.ShloMosaic.shapeCast_shapeCast _ _ _

end Values

/-! ## The trip, at the kernel's own names of what it touches -/

section Run

variable (c : Dev nD) (k : Fin k0_t1_loop.trips)
    (A : CT F c aA) (T : CT F c tile)
    (v36 : Vec F S16x8x25088 .f32) (v39 : FVec F S16x1x1 .f32) (Q : Unit → sProp (MM F))
    (o : Fin 4 → ℕ) (ho : ∀ a, o a + S1x2x8x25088.size a ≤ S64x2x8x25088.size a) (V : S2x8x25088.Idx → Elt F .f32)
    (O : sProp (MM F)) (hO : iprop(∃ g : CT F c aO, ⌜(blk0 aO o ho).view.read (Elt F) g = V⌝ ∗ oO c o ho g) ⊢ O)

/-- What block `k` of layer 0 leaves as, at the kernel's own name of the block. -/
abbrev val0' : FVec F S2x8x25088 .f32 :=
  addf (show Vec F S2x8x25088 .f32 from (blk0 aA (k0_off3 k) (k0_off3_inb k)).view.read (Elt F) A)
    (tile.view.readAt (Elt F) (Rect.unit (s := S16x8x25088) (k0_off8 k) S2x8x25088.size (k0_off8_inb k)).toLoadRect T)

/-- The block of layer 0 that leaves. -/
abbrev leaves0 : sProp (MM F) := iprop(∃ fs' : CT F c sO,
  into c (cellAt cc0_scratch18 (k0_off1 k) (k0_off1_inb k)) 50176 (blk0 aO (k0_off3 k) (k0_off3_inb k))
    (slot0 sO (k0_off2 k) (k0_off2_inb k)) (val0' c k A T) fs')

include hO in
theorem trip0_mid (h1 : k0_cond1 k = 1#1) (h2 : k0_cond2 k = 1#1) :
    iprop((into c (cellAt cc0_scratch17 (k0_off1 k) (k0_off1_inb k)) 50176 (slot0 sI (k0_off2 k) (k0_off2_inb k))
          (blk0 aA (k0_off3 k) (k0_off3_inb k)) ((blk0 aA (k0_off3 k) (k0_off3_inb k)).view.read (Elt F) A) A
      ∗ oA c (k0_off11 k) (k0_off11_inb k h2) A
      ∗ (∃ fs : CT F c sO, into c (cellAt cc0_scratch18 (k0_off4 k) (k0_off4_inb k h1)) 50176 (blk0 aO o ho)
          (slot0 sO (k0_off2 k) (k0_off2_inb k)) V fs)
      ∗ (∃ g' : CT F c aO, oO c (k0_off3 k) (k0_off3_inb k) g')
      ∗ own c tile T ∗ (∃ W, owes (c : Thread nD τ) 0 W))
      ∗ (into c (cellAt cc0_scratch17 (k0_off1 k) (k0_off1_inb k)) 50176 (slot0 sI (k0_off2 k) (k0_off2_inb k))
            (blk0 aA (k0_off11 k) (k0_off11_inb k h2)) ((blk0 aA (k0_off11 k) (k0_off11_inb k h2)).view.read (Elt F) A) A
          -∗ oA c (k0_off3 k) (k0_off3_inb k) A -∗ leaves0 c k A T -∗ O
          -∗ (own c tile T ∗ ∃ W', owes (c : Thread nD τ) 0 W') -∗ Q ()))
    ⊢ wp frame (wpE (defs₀ (F := F)) Variants.none c none) Set.univ (body0 v36 v39 k) Q := by
  unfold body0 k0_t1_body
  simp only [k0_part1_eq_skeleton]; unfold k0_part1_skel
  iintro ⟨⟨Hin, Hs, ⟨%fs, Hout⟩, ⟨%g', Hd⟩, HT, %W, HW⟩, HQ⟩
  unfold into
  icases Hin with ⟨%f, %hf, Hin⟩
  icases Hout with ⟨%g, %hg, Hout⟩
  sl_exec
  sl_step
  unfold trip0_mid.sl.dma4 trip0_mid.sl.Hout_src_w1 trip0_mid.sl.dma4_1
  iapply HQ $$ [Hin] [Hin_src] [Hout] [Hout_dst] [HT HW]
  · iexists _
    isplitr; swap; · iexact Hin
    ipureintro
    exact View.read_writes_whole _ _ _
  · iexact Hin_src
  · unfold leaves0 into
    iexists _, _
    isplitr; swap; · iexact Hout
    ipureintro
    refine (View.read_writes_whole _ _ _).trans ?_
    refine (slot_read_store c fs _ _ _ _ ?_ _).trans ?_
    · exact (k0_off2_eq k).trans (k0_off7_eq k).symm
    · rw [pay1_eq, slot_load c f (k0_off2 k) (k0_off7 k) (k0_off2_inb k) _ ((k0_off2_eq k).trans (k0_off7_eq k).symm), hf]
  · iapply hO
    iexists _
    isplitr; swap; · iexact Hout_dst
    ipureintro; exact hg
  · isplitl [HT]; · iexact HT
    iexists _; iexact HW

theorem trip0_first (h1 : ¬ k0_cond1 k = 1#1) (h2 : k0_cond2 k = 1#1) :
    iprop((into c (cellAt cc0_scratch17 (k0_off1 k) (k0_off1_inb k)) 50176 (slot0 sI (k0_off2 k) (k0_off2_inb k))
          (blk0 aA (k0_off3 k) (k0_off3_inb k)) ((blk0 aA (k0_off3 k) (k0_off3_inb k)).view.read (Elt F) A) A
      ∗ oA c (k0_off11 k) (k0_off11_inb k h2) A
      ∗ (semVal ((c : Thread nD τ), SemLoc.dma (cellAt cc0_scratch18 (k0_off1 k) (k0_off1_inb k))) 0
        ∗ ∃ fs : CT F c sO, pO c (k0_off2 k) (k0_off2_inb k) fs)
      ∗ (∃ g' : CT F c aO, oO c (k0_off3 k) (k0_off3_inb k) g')
      ∗ own c tile T ∗ (∃ W, owes (c : Thread nD τ) 0 W))
      ∗ (into c (cellAt cc0_scratch17 (k0_off1 k) (k0_off1_inb k)) 50176 (slot0 sI (k0_off2 k) (k0_off2_inb k))
            (blk0 aA (k0_off11 k) (k0_off11_inb k h2)) ((blk0 aA (k0_off11 k) (k0_off11_inb k h2)).view.read (Elt F) A) A
          -∗ oA c (k0_off3 k) (k0_off3_inb k) A -∗ leaves0 c k A T
          -∗ (own c tile T ∗ ∃ W', owes (c : Thread nD τ) 0 W') -∗ Q ()))
    ⊢ wp frame (wpE (defs₀ (F := F)) Variants.none c none) Set.univ (body0 v36 v39 k) Q := by
  unfold body0 k0_t1_body
  simp only [k0_part1_eq_skeleton]; unfold k0_part1_skel
  iintro ⟨⟨Hin, Hs, ⟨Hv, %fs, Hp⟩, ⟨%g', Hd⟩, HT, %W, HW⟩, HQ⟩
  unfold into
  icases Hin with ⟨%f, %hf, Hin⟩
  sl_exec
  sl_step
  unfold trip0_first.sl.dma4 trip0_first.sl.Hp_w1 trip0_first.sl.dma4_1
  iapply HQ $$ [Hin] [Hin_src] [Hv] [HT HW]
  · iexists _
    isplitr; swap; · iexact Hin
    ipureintro
    exact View.read_writes_whole _ _ _
  · iexact Hin_src
  · unfold leaves0 into
    iexists _, _
    isplitr; swap; · iexact Hv
    ipureintro
    refine (View.read_writes_whole _ _ _).trans ?_
    refine (slot_read_store c fs _ _ _ _ ?_ _).trans ?_
    · exact (k0_off2_eq k).trans (k0_off7_eq k).symm
    · rw [pay1_eq, slot_load c f (k0_off2 k) (k0_off7 k) (k0_off2_inb k) _ ((k0_off2_eq k).trans (k0_off7_eq k).symm), hf]
  · isplitl [HT]; · iexact HT
    iexists _; iexact HW

include hO in
theorem trip0_last (h1 : k0_cond1 k = 1#1) (h2 : ¬ k0_cond2 k = 1#1) :
    iprop((into c (cellAt cc0_scratch17 (k0_off1 k) (k0_off1_inb k)) 50176 (slot0 sI (k0_off2 k) (k0_off2_inb k))
          (blk0 aA (k0_off3 k) (k0_off3_inb k)) ((blk0 aA (k0_off3 k) (k0_off3_inb k)).view.read (Elt F) A) A
      ∗ (∃ fs : CT F c sO, into c (cellAt cc0_scratch18 (k0_off4 k) (k0_off4_inb k h1)) 50176 (blk0 aO o ho)
          (slot0 sO (k0_off2 k) (k0_off2_inb k)) V fs)
      ∗ (∃ g' : CT F c aO, oO c (k0_off3 k) (k0_off3_inb k) g')
      ∗ own c tile T ∗ (∃ W, owes (c : Thread nD τ) 0 W))
      ∗ ((semVal ((c : Thread nD τ), SemLoc.dma (cellAt cc0_scratch17 (k0_off1 k) (k0_off1_inb k))) 0
            ∗ ∃ f : CT F c sI, pI c (k0_off2 k) (k0_off2_inb k) f)
          -∗ oA c (k0_off3 k) (k0_off3_inb k) A -∗ leaves0 c k A T -∗ O
          -∗ (own c tile T ∗ ∃ W', owes (c : Thread nD τ) 0 W') -∗ Q ()))
    ⊢ wp frame (wpE (defs₀ (F := F)) Variants.none c none) Set.univ (body0 v36 v39 k) Q := by
  unfold body0 k0_t1_body
  simp only [k0_part1_eq_skeleton]; unfold k0_part1_skel
  iintro ⟨⟨Hin, ⟨%fs, Hout⟩, ⟨%g', Hd⟩, HT, %W, HW⟩, HQ⟩
  unfold into
  icases Hin with ⟨%f, %hf, Hin⟩
  icases Hout with ⟨%g, %hg, Hout⟩
  sl_exec
  sl_step
  unfold trip0_last.sl.dma4 trip0_last.sl.Hout_src_w1
  iapply HQ $$ [Hin Hin_dst] [Hin_src] [Hout] [Hout_dst] [HT HW]
  · isplitl [Hin]; · iexact Hin
    iexists _; iexact Hin_dst
  · iexact Hin_src
  · unfold leaves0 into
    iexists _, _
    isplitr; swap; · iexact Hout
    ipureintro
    refine (View.read_writes_whole _ _ _).trans ?_
    refine (slot_read_store c fs _ _ _ _ ?_ _).trans ?_
    · exact (k0_off2_eq k).trans (k0_off7_eq k).symm
    · rw [pay1_eq, slot_load c f (k0_off2 k) (k0_off7 k) (k0_off2_inb k) _ ((k0_off2_eq k).trans (k0_off7_eq k).symm), hf]
  · iapply hO
    iexists _
    isplitr; swap; · iexact Hout_dst
    ipureintro; exact hg
  · isplitl [HT]; · iexact HT
    iexists _; iexact HW

end Run

end Cert.KernelIdeal.Hand
end
-- ==== Proof.Loop0.lean ====
/- The first loop: layer 0's blocks arrive, are added to their tiles, and leave. -/
module

public import proofs.«01_k».proof.Proof.Trip0

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "EC" => countersEmb (U := Pipeline.UD sig nD τ)

/-! ## The kernel's names of slots, blocks and cells, as a block's number gives them -/

theorem cell_eq (S : DmaSems sig S6) (b : ℕ) {o : Fin 1 → ℕ} (h : ∀ a, o a + S1.size a ≤ S6.size a) (e : o = ![b % 6]) :
    cellAt S o h = cellF S b := by
  subst e; rfl

section Names

variable (c : Dev nD) (S : DmaSems sig S6) (N b : ℕ)
  {o : Fin 1 → ℕ} (ho : ∀ a, o a + S1.size a ≤ S6.size a) (eo : o = ![b % 6])
  {os : Fin 4 → ℕ} (hs : ∀ a, os a + S1x2x8x25088.size a ≤ S6x2x8x25088.size a) (es : os = ![b % 6, 0, 0, 0])
  {ob : Fin 4 → ℕ} (hb : ∀ a, ob a + S1x2x8x25088.size a ≤ S64x2x8x25088.size a) (eb : ob = ![b % 64, 0, 0, 0])

include eb in
theorem home0_eq (A : CT F c aA) : oA c ob hb A = owns c (blkF0 aA) (fun _ => A) b := by subst eb; rfl

include eb in
theorem any0_eq : iprop(∃ g : CT F c aO, oO c ob hb g) = anys c (blkF0 aO) b := by subst eb; rfl

include eo es in
theorem free0_eq :
    iprop(semVal ((c : Thread nD τ), SemLoc.dma (cellAt S o ho)) 0 ∗ ∃ f : CT F c sI, pI c os hs f)
      = slotFree c (cellF S) (slotF0 sI) b := by subst eo es; rfl

include eo es in
theorem free0_eq' :
    iprop(semVal ((c : Thread nD τ), SemLoc.dma (cellAt S o ho)) 0 ∗ ∃ f : CT F c sO, pO c os hs f)
      = slotFree c (cellF S) (slotF0 sO) b := by subst eo es; rfl

include eo es eb in
theorem arrives0_eq (A : CT F c aA) :
    into c (cellAt S o ho) N (slot0 sI os hs) (blk0 aA ob hb) ((blk0 aA ob hb).view.read (Elt F) A) A
      = arrives c (cellF S) N (slotF0 sI) (blkF0 aA) (fun _ => A) b := by
  subst eo es eb; rfl

include eo es eb in
theorem leaves0_eq (G : CT F c aO) (V : S2x8x25088.Idx → Elt F .f32) (hV : (blk0 aO ob hb).view.read (Elt F) G = V) :
    iprop(∃ fs : CT F c sO, into c (cellAt S o ho) N (blk0 aO ob hb) (slot0 sO os hs) V fs)
      = leaves c (cellF S) N (slotF0 sO) (blkF0 aO) (fun _ => G) b := by
  subst hV eo es eb; rfl

/-- A block that reads as `G` does is a block holding `G`. -/
theorem over0 (G : CT F c aO) :
    iprop(∃ g : CT F c aO, ⌜(blkF0 aO b).view.read (Elt F) g = (blkF0 aO b).view.read (Elt F) G⌝ ∗ own c (blkF0 aO b) g)
      ⊢ owns c (blkF0 aO) (fun _ => G) b := by
  iintro ⟨%g, %h, H⟩
  iapply (Entails.of_eq (own_congr c (blkF0 aO b) h)) $$ H

end Names

section Conds

theorem cond1_iff (k : Fin k0_t1_loop.trips) : k0_cond1 k = 1#1 ↔ 6 ≤ k.val := by revert k; decide
theorem cond2_iff (k : Fin k0_t1_loop.trips) : k0_cond2 k = 1#1 ↔ k.val + 6 < 64 := by revert k; decide
theorem lt0 (k : Fin k0_t1_loop.trips) : k.val < 64 := by revert k; decide

theorem inbB (b : ℕ) : ∀ a, (![b % 64, 0, 0, 0] : Fin 4 → ℕ) a + S1x2x8x25088.size a ≤ S64x2x8x25088.size a := by
  intro a; fin_cases a <;> first | (show b % 64 + 1 ≤ 64; omega) | exact Nat.le_refl _

theorem modk {k : ℕ} (h : k < 64) : (![k, 0, 0, 0] : Fin 4 → ℕ) = ![k % 64, 0, 0, 0] := by rw [Nat.mod_eq_of_lt h]

end Conds

/-- What the first loop holds before trip `k`: layer 0's blocks on their way in and out, and the tile. -/
def inv0 (c : Dev nD) (A : CT F c aA) (G : CT F c aO) (T : CT F c tile) (k : ℕ) : sProp (MM F) :=
  iprop(rd0 c A k (min (k + 6) 64) ∗ wr0 c G (k - 6) k ∗ own c tile T ∗ ∃ W, owes (c : Thread nD τ) 0 W)

theorem trip0 (c : Dev nD) (k : Fin k0_t1_loop.trips) (A : CT F c aA) (T : CT F c tile) (G : CT F c aO)
    (v36 : Vec F S16x8x25088 .f32) (v39 : FVec F S16x1x1 .f32)
    (hG : (blk0 aO (k0_off3 k) (k0_off3_inb k)).view.read (Elt F) G = val0' c k A T) :
    inv0 c A G T k ⊢ wp frame (wpE (defs₀ (F := F)) Variants.none c none) Set.univ (body0 v36 v39 k)
      fun _ => inv0 c A G T (k + 1) := by
  have hk := lt0 k
  have e1 : k0_off1 k = ![k.val % 6] := k0_off1_eq k
  have e2 : k0_off2 k = ![k.val % 6, 0, 0, 0] := k0_off2_eq k
  have e3 : k0_off3 k = ![k.val % 64, 0, 0, 0] := (k0_off3_eq k).trans (modk hk)
  have e1' : k0_off1 k = ![(k.val + 6) % 6] := by rw [Nat.add_mod_right]; exact e1
  have e2' : k0_off2 k = ![(k.val + 6) % 6, 0, 0, 0] := by rw [Nat.add_mod_right]; exact e2
  have hin := arrives0_eq c cc0_scratch17 50176 k (k0_off1_inb k) e1 (k0_off2_inb k) e2 (k0_off3_inb k) e3 A
  have hout := leaves0_eq c cc0_scratch18 50176 k (k0_off1_inb k) e1 (k0_off2_inb k) e2 (k0_off3_inb k) e3 G _ hG
  have hany := any0_eq (F := F) c k (k0_off3_inb k) e3
  have hhome := home0_eq c k (k0_off3_inb k) e3 A
  unfold inv0
  refine ring_step (P := fun Q => wp frame (wpE (defs₀ (F := F)) Variants.none c none) Set.univ (body0 v36 v39 k) fun _ => Q)
    hk ?_ ?_ ?_
  · intro h1 h2 Q
    have c1 := (cond1_iff k).mpr h1
    have c2 := (cond2_iff k).mpr h2
    have e4 : k0_off4 k = ![(k.val - 6) % 6] := by rw [k0_off4_eq k, show k.val % 6 = (k.val - 6) % 6 by omega]
    have e5 : k0_off2 k = ![(k.val - 6) % 6, 0, 0, 0] := by rw [e2, show k.val % 6 = (k.val - 6) % 6 by omega]
    have e11 : k0_off11 k = ![(k.val + 6) % 64, 0, 0, 0] := (k0_off11_eq k).trans (modk h2)
    rw [← hin, ← hout, ← hany, ← hhome, ← home0_eq c (k.val + 6) (k0_off11_inb k c2) e11 A,
      ← arrives0_eq c cc0_scratch17 50176 (k.val + 6) (k0_off1_inb k) e1' (k0_off2_inb k) e2' (k0_off11_inb k c2) e11 A,
      ← leaves0_eq c cc0_scratch18 50176 (k.val - 6) (k0_off4_inb k c1) e4 (k0_off2_inb k) e5 (inbB (k.val - 6)) rfl G _ rfl]
    exact trip0_mid c k A T v36 v39 (fun _ => Q) _ _ _ _ (over0 c (k.val - 6) G) c1 c2
  · intro h1 h2 Q
    have c1 := (cond1_iff k).mpr h1
    have c2 := fun h => h2 ((cond2_iff k).mp h)
    have e4 : k0_off4 k = ![(k.val - 6) % 6] := by rw [k0_off4_eq k, show k.val % 6 = (k.val - 6) % 6 by omega]
    have e5 : k0_off2 k = ![(k.val - 6) % 6, 0, 0, 0] := by rw [e2, show k.val % 6 = (k.val - 6) % 6 by omega]
    rw [← hin, ← hout, ← hany, ← hhome, ← free0_eq (F := F) c cc0_scratch17 (k.val + 6) (k0_off1_inb k) e1' (k0_off2_inb k) e2',
      ← leaves0_eq c cc0_scratch18 50176 (k.val - 6) (k0_off4_inb k c1) e4 (k0_off2_inb k) e5 (inbB (k.val - 6)) rfl G _ rfl]
    exact trip0_last c k A T v36 v39 (fun _ => Q) _ _ _ _ (over0 c (k.val - 6) G) c1 c2
  · intro h1 h2 Q
    have c1 := fun h => h1 ((cond1_iff k).mp h)
    have c2 := (cond2_iff k).mpr h2
    have e11 : k0_off11 k = ![(k.val + 6) % 64, 0, 0, 0] := (k0_off11_eq k).trans (modk h2)
    rw [← free0_eq' (F := F) c cc0_scratch18 k (k0_off1_inb k) e1 (k0_off2_inb k) e2, ← hin, ← hout, ← hany, ← hhome, ← home0_eq c (k.val + 6) (k0_off11_inb k c2) e11 A,
      ← arrives0_eq c cc0_scratch17 50176 (k.val + 6) (k0_off1_inb k) e1' (k0_off2_inb k) e2' (k0_off11_inb k c2) e11 A]
    exact trip0_first c k A T v36 v39 (fun _ => Q) c1 c2

end Cert.KernelIdeal.Hand
end
-- ==== Proof.Trip1.lean ====
/- One trip of the second loop: a block of layer 1 arrives, is added to its channels' embeddings, and leaves. -/
module

public import proofs.«01_k».proof.Proof.Stream
public import Idealize.ShloMosaic.Lib.Pipeline.Value

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "EC" => countersEmb (U := Pipeline.UD sig nD τ)

/-- The second loop's trip, at the kernel's own buffers. -/
abbrev body1 (v109 : FVec F S8x16x1x256 .f32) (k : Fin k0_t2_loop.trips) :=
  k0_t2_body (F := F) (Memref.whole main_v0) (Memref.isWhole_whole _) (Memref.whole main_v1) (Memref.isWhole_whole _) (Memref.whole main_arg2) (Memref.isWhole_whole _) (Memref.whole main_v15) (Memref.isWhole_whole _) (Memref.whole main_v16) (Memref.isWhole_whole _) (Memref.whole main_v17) (Memref.isWhole_whole _) (Memref.whole main_v3) (Memref.isWhole_whole _) (Memref.whole main_v5) (Memref.isWhole_whole _) (Memref.whole main_v10) (Memref.isWhole_whole _) (Memref.whole main_v12) (Memref.isWhole_whole _) (Memref.whole main_v14) (Memref.isWhole_whole _) (Memref.whole main_v18_0) (Memref.isWhole_whole _) (Memref.whole main_v18_1) (Memref.isWhole_whole _) (Memref.whole main_v18_2) (Memref.isWhole_whole _) (Memref.whole main_v18_3) (Memref.isWhole_whole _) (Memref.whole main_v18_4) (Memref.isWhole_whole _) (Memref.whole main_v18_5) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) (Memref.whole cc0_scratch14) (Memref.isWhole_whole _) (Memref.whole cc0_scratch15) (Memref.isWhole_whole _) (Memref.whole cc0_scratch16) (Memref.isWhole_whole _) cc0_scratch17 cc0_scratch18 cc0_scratch19 cc0_scratch20 cc0_scratch21 cc0_scratch22 cc0_scratch23 cc0_scratch24 cc0_scratch25 cc0_scratch26 cc0_scratch27 v109 k ()

/-- The table of weight embeddings. -/
abbrev wet : Memref sig .tc .vmem S16x1x3 .f32 := Memref.whole cc0_scratch12

/-- Two channels' numbers, each over its whole block. -/
abbrev spread (w : Vec F S2x1x1 .f32) : FVec F S2x256x256 .f32 :=
  broadcastTo S2x256x256 (shapeCast S2x1x1 (shapeCast S2 w shapeCasts_S2x1x1_S2) shapeCasts_S2_S2x1x1) broadcasts_S2x1x1_S2x256x256

section Names

variable (c : Dev nD) (o : Fin 4 → ℕ)

abbrev oA1 (h : ∀ a, o a + S1x2x256x256.size a ≤ S64x2x256x256.size a) (f : CT F c aA1) : sProp (MM F) := own c (blk1 aA1 o h) f
abbrev oO1 (h : ∀ a, o a + S1x2x256x256.size a ≤ S64x2x256x256.size a) (f : CT F c aO1) : sProp (MM F) := own c (blk1 aO1 o h) f
abbrev pI1 (h : ∀ a, o a + S1x2x256x256.size a ≤ S6x2x256x256.size a) (f : CT F c sI1) : sProp (MM F) := own c (slot1 sI1 o h) f
abbrev pO1 (h : ∀ a, o a + S1x2x256x256.size a ≤ S6x2x256x256.size a) (f : CT F c sO1) : sProp (MM F) := own c (slot1 sO1 o h) f

end Names

/-! ## The values of a trip -/

section Values

variable (c : Dev nD)

/-- What leaves a slot that was stored into whole. -/
theorem slot_read_store1 (fs : CT F c sO1) (o o' : Fin 4 → ℕ) (h : ∀ a, o a + S1x2x256x256.size a ≤ S6x2x256x256.size a)
    (h' : ∀ a, o' a + S1x2x256x256.size a ≤ S6x2x256x256.size a) (e : o = o') (P : S1x2x256x256.Idx → Elt F .f32) :
    (slot1 sO1 o h).view.read (Elt F) (View.write (Elt F) (sO1.access (Rect.unit (s := S6x2x256x256) o' S1x2x256x256.size h')) fs P Finset.univ)
      = shapeCast S2x256x256 P shapeCasts_S1x2x256x256_S2x256x256 := by
  subst e
  refine (Memref.read_squeeze_slice sO1 (Rect.unit (s := S6x2x256x256) o S1x2x256x256.size h) (fun _ => rfl) _
    shapeCasts_S1x2x256x256_S2x256x256 _).trans ?_
  refine congrArg (fun v => shapeCast S2x256x256 v shapeCasts_S1x2x256x256_S2x256x256) (funext fun x => ?_)
  exact View.read_write_of_mem (v := sO1.access (Rect.unit (s := S6x2x256x256) o S1x2x256x256.size h)) (Val := Elt F) _ _ (Finset.mem_univ _)

/-- What a slot holds, loaded whole. -/
theorem slot_load1 (f : CT F c sI1) (o o' : Fin 4 → ℕ) (h : ∀ a, o a + S1x2x256x256.size a ≤ S6x2x256x256.size a)
    (h' : ∀ a, o' a + S1x2x256x256.size a ≤ S6x2x256x256.size a) (e : o = o') :
    shapeCast S2x256x256 (sI1.view.readAt (Elt F) (Rect.unit (s := S6x2x256x256) o' S1x2x256x256.size h').toLoadRect f) shapeCasts_S1x2x256x256_S2x256x256
      = (slot1 sI1 o h).view.read (Elt F) f := by
  subst e
  rfl

/-- The trip's sum. -/
theorem pay2_eq (w : Vec F S2x1x1 .f32) (v : Vec F S1x2x256x256 .f32) :
    shapeCast S2x256x256 (k0_pay2 w v) shapeCasts_S1x2x256x256_S2x256x256
      = addf (shapeCast S2x256x256 v shapeCasts_S1x2x256x256_S2x256x256) (spread w) := by
  unfold k0_pay2
  exact Idealize.ShloMosaic.shapeCast_shapeCast _ _ _

end Values

/-! ## The trip, at the kernel's own names of what it touches -/

section Run

variable (c : Dev nD) (k : Fin k0_t2_loop.trips)
    (A : CT F c aA1) (T : CT F c wet)
    (v109 : FVec F S8x16x1x256 .f32) (Q : Unit → sProp (MM F))
    (o : Fin 4 → ℕ) (ho : ∀ a, o a + S1x2x256x256.size a ≤ S64x2x256x256.size a) (V : S2x256x256.Idx → Elt F .f32)
    (O : sProp (MM F)) (hO : iprop(∃ g : CT F c aO1, ⌜(blk1 aO1 o ho).view.read (Elt F) g = V⌝ ∗ oO1 c o ho g) ⊢ O)

/-- What block `k` of layer 1 leaves as, at the kernel's own name of the block. -/
abbrev val1' : FVec F S2x256x256 .f32 :=
  addf (show Vec F S2x256x256 .f32 from (blk1 aA1 (k0_off14 k) (k0_off14_inb k)).view.read (Elt F) A)
    (spread (wet.view.readAt (Elt F) (Rect.unit (s := S16x1x3) (k0_off18 k) S2x1x1.size (k0_off18_inb k)).toLoadRect T))

/-- The block of layer 1 that leaves. -/
abbrev leaves1 : sProp (MM F) := iprop(∃ fs' : CT F c sO1,
  into c (cellAt cc0_scratch20 (k0_off12 k) (k0_off12_inb k)) 16384 (blk1 aO1 (k0_off14 k) (k0_off14_inb k))
    (slot1 sO1 (k0_off13 k) (k0_off13_inb k)) (val1' c k A T) fs')

include hO in
theorem trip1_mid (h1 : k0_cond3 k = 1#1) (h2 : k0_cond4 k = 1#1) :
    iprop((into c (cellAt cc0_scratch19 (k0_off12 k) (k0_off12_inb k)) 16384 (slot1 sI1 (k0_off13 k) (k0_off13_inb k))
          (blk1 aA1 (k0_off14 k) (k0_off14_inb k)) ((blk1 aA1 (k0_off14 k) (k0_off14_inb k)).view.read (Elt F) A) A
      ∗ oA1 c (k0_off22 k) (k0_off22_inb k h2) A
      ∗ (∃ fs : CT F c sO1, into c (cellAt cc0_scratch20 (k0_off15 k) (k0_off15_inb k h1)) 16384 (blk1 aO1 o ho)
          (slot1 sO1 (k0_off13 k) (k0_off13_inb k)) V fs)
      ∗ (∃ g' : CT F c aO1, oO1 c (k0_off14 k) (k0_off14_inb k) g')
      ∗ own c wet T ∗ (∃ W, owes (c : Thread nD τ) 0 W))
      ∗ (into c (cellAt cc0_scratch19 (k0_off12 k) (k0_off12_inb k)) 16384 (slot1 sI1 (k0_off13 k) (k0_off13_inb k))
            (blk1 aA1 (k0_off22 k) (k0_off22_inb k h2)) ((blk1 aA1 (k0_off22 k) (k0_off22_inb k h2)).view.read (Elt F) A) A
          -∗ oA1 c (k0_off14 k) (k0_off14_inb k) A -∗ leaves1 c k A T -∗ O
          -∗ (own c wet T ∗ ∃ W', owes (c : Thread nD τ) 0 W') -∗ Q ()))
    ⊢ wp frame (wpE (defs₀ (F := F)) Variants.none c none) Set.univ (body1 v109 k) Q := by
  unfold body1 k0_t2_body
  simp only [k0_part2_eq_skeleton]; unfold k0_part2_skel
  iintro ⟨⟨Hin, Hs, ⟨%fs, Hout⟩, ⟨%g', Hd⟩, HT, %W, HW⟩, HQ⟩
  unfold into
  icases Hin with ⟨%f, %hf, Hin⟩
  icases Hout with ⟨%g, %hg, Hout⟩
  sl_exec
  sl_step
  unfold trip1_mid.sl.dma4 trip1_mid.sl.Hout_src_w1 trip1_mid.sl.dma4_1
  iapply HQ $$ [Hin] [Hin_src] [Hout] [Hout_dst] [HT HW]
  · iexists _
    isplitr; swap; · iexact Hin
    ipureintro
    exact View.read_writes_whole _ _ _
  · iexact Hin_src
  · unfold leaves1 into
    iexists _, _
    isplitr; swap; · iexact Hout
    ipureintro
    refine (View.read_writes_whole _ _ _).trans ?_
    refine (slot_read_store1 c fs _ _ _ _ ?_ _).trans ?_
    · exact (k0_off13_eq k).trans (k0_off19_eq k).symm
    · rw [pay2_eq, slot_load1 c f (k0_off13 k) (k0_off19 k) (k0_off13_inb k) _ ((k0_off13_eq k).trans (k0_off19_eq k).symm), hf]
  · iapply hO
    iexists _
    isplitr; swap; · iexact Hout_dst
    ipureintro; exact hg
  · isplitl [HT]; · iexact HT
    iexists _; iexact HW

theorem trip1_first (h1 : ¬ k0_cond3 k = 1#1) (h2 : k0_cond4 k = 1#1) :
    iprop((into c (cellAt cc0_scratch19 (k0_off12 k) (k0_off12_inb k)) 16384 (slot1 sI1 (k0_off13 k) (k0_off13_inb k))
          (blk1 aA1 (k0_off14 k) (k0_off14_inb k)) ((blk1 aA1 (k0_off14 k) (k0_off14_inb k)).view.read (Elt F) A) A
      ∗ oA1 c (k0_off22 k) (k0_off22_inb k h2) A
      ∗ (semVal ((c : Thread nD τ), SemLoc.dma (cellAt cc0_scratch20 (k0_off12 k) (k0_off12_inb k))) 0
        ∗ ∃ fs : CT F c sO1, pO1 c (k0_off13 k) (k0_off13_inb k) fs)
      ∗ (∃ g' : CT F c aO1, oO1 c (k0_off14 k) (k0_off14_inb k) g')
      ∗ own c wet T ∗ (∃ W, owes (c : Thread nD τ) 0 W))
      ∗ (into c (cellAt cc0_scratch19 (k0_off12 k) (k0_off12_inb k)) 16384 (slot1 sI1 (k0_off13 k) (k0_off13_inb k))
            (blk1 aA1 (k0_off22 k) (k0_off22_inb k h2)) ((blk1 aA1 (k0_off22 k) (k0_off22_inb k h2)).view.read (Elt F) A) A
          -∗ oA1 c (k0_off14 k) (k0_off14_inb k) A -∗ leaves1 c k A T
          -∗ (own c wet T ∗ ∃ W', owes (c : Thread nD τ) 0 W') -∗ Q ()))
    ⊢ wp frame (wpE (defs₀ (F := F)) Variants.none c none) Set.univ (body1 v109 k) Q := by
  unfold body1 k0_t2_body
  simp only [k0_part2_eq_skeleton]; unfold k0_part2_skel
  iintro ⟨⟨Hin, Hs, ⟨Hv, %fs, Hp⟩, ⟨%g', Hd⟩, HT, %W, HW⟩, HQ⟩
  unfold into
  icases Hin with ⟨%f, %hf, Hin⟩
  sl_exec
  sl_step
  unfold trip1_first.sl.dma4 trip1_first.sl.Hp_w1 trip1_first.sl.dma4_1
  iapply HQ $$ [Hin] [Hin_src] [Hv] [HT HW]
  · iexists _
    isplitr; swap; · iexact Hin
    ipureintro
    exact View.read_writes_whole _ _ _
  · iexact Hin_src
  · unfold leaves1 into
    iexists _, _
    isplitr; swap; · iexact Hv
    ipureintro
    refine (View.read_writes_whole _ _ _).trans ?_
    refine (slot_read_store1 c fs _ _ _ _ ?_ _).trans ?_
    · exact (k0_off13_eq k).trans (k0_off19_eq k).symm
    · rw [pay2_eq, slot_load1 c f (k0_off13 k) (k0_off19 k) (k0_off13_inb k) _ ((k0_off13_eq k).trans (k0_off19_eq k).symm), hf]
  · isplitl [HT]; · iexact HT
    iexists _; iexact HW

include hO in
theorem trip1_last (h1 : k0_cond3 k = 1#1) (h2 : ¬ k0_cond4 k = 1#1) :
    iprop((into c (cellAt cc0_scratch19 (k0_off12 k) (k0_off12_inb k)) 16384 (slot1 sI1 (k0_off13 k) (k0_off13_inb k))
          (blk1 aA1 (k0_off14 k) (k0_off14_inb k)) ((blk1 aA1 (k0_off14 k) (k0_off14_inb k)).view.read (Elt F) A) A
      ∗ (∃ fs : CT F c sO1, into c (cellAt cc0_scratch20 (k0_off15 k) (k0_off15_inb k h1)) 16384 (blk1 aO1 o ho)
          (slot1 sO1 (k0_off13 k) (k0_off13_inb k)) V fs)
      ∗ (∃ g' : CT F c aO1, oO1 c (k0_off14 k) (k0_off14_inb k) g')
      ∗ own c wet T ∗ (∃ W, owes (c : Thread nD τ) 0 W))
      ∗ ((semVal ((c : Thread nD τ), SemLoc.dma (cellAt cc0_scratch19 (k0_off12 k) (k0_off12_inb k))) 0
            ∗ ∃ f : CT F c sI1, pI1 c (k0_off13 k) (k0_off13_inb k) f)
          -∗ oA1 c (k0_off14 k) (k0_off14_inb k) A -∗ leaves1 c k A T -∗ O
          -∗ (own c wet T ∗ ∃ W', owes (c : Thread nD τ) 0 W') -∗ Q ()))
    ⊢ wp frame (wpE (defs₀ (F := F)) Variants.none c none) Set.univ (body1 v109 k) Q := by
  unfold body1 k0_t2_body
  simp only [k0_part2_eq_skeleton]; unfold k0_part2_skel
  iintro ⟨⟨Hin, ⟨%fs, Hout⟩, ⟨%g', Hd⟩, HT, %W, HW⟩, HQ⟩
  unfold into
  icases Hin with ⟨%f, %hf, Hin⟩
  icases Hout with ⟨%g, %hg, Hout⟩
  sl_exec
  sl_step
  unfold trip1_last.sl.dma4 trip1_last.sl.Hout_src_w1
  iapply HQ $$ [Hin Hin_dst] [Hin_src] [Hout] [Hout_dst] [HT HW]
  · isplitl [Hin]; · iexact Hin
    iexists _; iexact Hin_dst
  · iexact Hin_src
  · unfold leaves1 into
    iexists _, _
    isplitr; swap; · iexact Hout
    ipureintro
    refine (View.read_writes_whole _ _ _).trans ?_
    refine (slot_read_store1 c fs _ _ _ _ ?_ _).trans ?_
    · exact (k0_off13_eq k).trans (k0_off19_eq k).symm
    · rw [pay2_eq, slot_load1 c f (k0_off13 k) (k0_off19 k) (k0_off13_inb k) _ ((k0_off13_eq k).trans (k0_off19_eq k).symm), hf]
  · iapply hO
    iexists _
    isplitr; swap; · iexact Hout_dst
    ipureintro; exact hg
  · isplitl [HT]; · iexact HT
    iexists _; iexact HW

end Run

end Cert.KernelIdeal.Hand
end
-- ==== Proof.Loop1.lean ====
/- The second loop: layer 1's blocks arrive, are added to their channels' embeddings, and leave. -/
module

public import proofs.«01_k».proof.Proof.Trip1
public import proofs.«01_k».proof.Proof.Loop0

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "EC" => countersEmb (U := Pipeline.UD sig nD τ)

/-! ## The kernel's names of slots, blocks and cells, as a block's number gives them -/

section Names

variable (c : Dev nD) (S : DmaSems sig S6) (N b : ℕ)
  {o : Fin 1 → ℕ} (ho : ∀ a, o a + S1.size a ≤ S6.size a) (eo : o = ![b % 6])
  {os : Fin 4 → ℕ} (hs : ∀ a, os a + S1x2x256x256.size a ≤ S6x2x256x256.size a) (es : os = ![b % 6, 0, 0, 0])
  {ob : Fin 4 → ℕ} (hb : ∀ a, ob a + S1x2x256x256.size a ≤ S64x2x256x256.size a) (eb : ob = ![b % 64, 0, 0, 0])

include eb in
theorem home1_eq (A : CT F c aA1) : oA1 c ob hb A = owns c (blkF1 aA1) (fun _ => A) b := by subst eb; rfl

include eb in
theorem any1_eq : iprop(∃ g : CT F c aO1, oO1 c ob hb g) = anys c (blkF1 aO1) b := by subst eb; rfl

include eo es in
theorem free1_eq :
    iprop(semVal ((c : Thread nD τ), SemLoc.dma (cellAt S o ho)) 0 ∗ ∃ f : CT F c sI1, pI1 c os hs f)
      = slotFree c (cellF S) (slotF1 sI1) b := by subst eo es; rfl

include eo es in
theorem free1_eq' :
    iprop(semVal ((c : Thread nD τ), SemLoc.dma (cellAt S o ho)) 0 ∗ ∃ f : CT F c sO1, pO1 c os hs f)
      = slotFree c (cellF S) (slotF1 sO1) b := by subst eo es; rfl

include eo es eb in
theorem arrives1_eq (A : CT F c aA1) :
    into c (cellAt S o ho) N (slot1 sI1 os hs) (blk1 aA1 ob hb) ((blk1 aA1 ob hb).view.read (Elt F) A) A
      = arrives c (cellF S) N (slotF1 sI1) (blkF1 aA1) (fun _ => A) b := by
  subst eo es eb; rfl

include eo es eb in
theorem leaves1_eq (G : CT F c aO1) (V : S2x256x256.Idx → Elt F .f32) (hV : (blk1 aO1 ob hb).view.read (Elt F) G = V) :
    iprop(∃ fs : CT F c sO1, into c (cellAt S o ho) N (blk1 aO1 ob hb) (slot1 sO1 os hs) V fs)
      = leaves c (cellF S) N (slotF1 sO1) (blkF1 aO1) (fun _ => G) b := by
  subst hV eo es eb; rfl

/-- A block that reads as `G` does is a block holding `G`. -/
theorem over1 (G : CT F c aO1) :
    iprop(∃ g : CT F c aO1, ⌜(blkF1 aO1 b).view.read (Elt F) g = (blkF1 aO1 b).view.read (Elt F) G⌝ ∗ own c (blkF1 aO1 b) g)
      ⊢ owns c (blkF1 aO1) (fun _ => G) b := by
  iintro ⟨%g, %h, H⟩
  iapply (Entails.of_eq (own_congr c (blkF1 aO1 b) h)) $$ H

end Names

section Conds

theorem cond3_iff (k : Fin k0_t2_loop.trips) : k0_cond3 k = 1#1 ↔ 6 ≤ k.val := by revert k; decide
theorem cond4_iff (k : Fin k0_t2_loop.trips) : k0_cond4 k = 1#1 ↔ k.val + 6 < 64 := by revert k; decide
theorem lt1 (k : Fin k0_t2_loop.trips) : k.val < 64 := by revert k; decide

theorem inbB1 (b : ℕ) : ∀ a, (![b % 64, 0, 0, 0] : Fin 4 → ℕ) a + S1x2x256x256.size a ≤ S64x2x256x256.size a := by
  intro a; fin_cases a <;> first | (show b % 64 + 1 ≤ 64; omega) | exact Nat.le_refl _

end Conds

/-- What the second loop holds before trip `k`: layer 1's blocks on their way in and out, and the table of weight embeddings. -/
def inv1 (c : Dev nD) (A : CT F c aA1) (G : CT F c aO1) (T : CT F c wet) (k : ℕ) : sProp (MM F) :=
  iprop(rd1 c A k (min (k + 6) 64) ∗ wr1 c G (k - 6) k ∗ own c wet T ∗ ∃ W, owes (c : Thread nD τ) 0 W)

theorem trip1 (c : Dev nD) (k : Fin k0_t2_loop.trips) (A : CT F c aA1) (T : CT F c wet) (G : CT F c aO1)
    (v109 : FVec F S8x16x1x256 .f32)
    (hG : (blk1 aO1 (k0_off14 k) (k0_off14_inb k)).view.read (Elt F) G = val1' c k A T) :
    inv1 c A G T k ⊢ wp frame (wpE (defs₀ (F := F)) Variants.none c none) Set.univ (body1 v109 k)
      fun _ => inv1 c A G T (k + 1) := by
  have hk := lt1 k
  have e1 : k0_off12 k = ![k.val % 6] := k0_off12_eq k
  have e2 : k0_off13 k = ![k.val % 6, 0, 0, 0] := k0_off13_eq k
  have e3 : k0_off14 k = ![k.val % 64, 0, 0, 0] := (k0_off14_eq k).trans (modk hk)
  have e1' : k0_off12 k = ![(k.val + 6) % 6] := by rw [Nat.add_mod_right]; exact e1
  have e2' : k0_off13 k = ![(k.val + 6) % 6, 0, 0, 0] := by rw [Nat.add_mod_right]; exact e2
  have hin := arrives1_eq c cc0_scratch19 16384 k (k0_off12_inb k) e1 (k0_off13_inb k) e2 (k0_off14_inb k) e3 A
  have hout := leaves1_eq c cc0_scratch20 16384 k (k0_off12_inb k) e1 (k0_off13_inb k) e2 (k0_off14_inb k) e3 G _ hG
  have hany := any1_eq (F := F) c k (k0_off14_inb k) e3
  have hhome := home1_eq c k (k0_off14_inb k) e3 A
  unfold inv1
  refine ring_step (P := fun Q => wp frame (wpE (defs₀ (F := F)) Variants.none c none) Set.univ (body1 v109 k) fun _ => Q)
    hk ?_ ?_ ?_
  · intro h1 h2 Q
    have c1 := (cond3_iff k).mpr h1
    have c2 := (cond4_iff k).mpr h2
    have e4 : k0_off15 k = ![(k.val - 6) % 6] := by rw [k0_off15_eq k, show k.val % 6 = (k.val - 6) % 6 by omega]
    have e5 : k0_off13 k = ![(k.val - 6) % 6, 0, 0, 0] := by rw [e2, show k.val % 6 = (k.val - 6) % 6 by omega]
    have e11 : k0_off22 k = ![(k.val + 6) % 64, 0, 0, 0] := (k0_off22_eq k).trans (modk h2)
    rw [← hin, ← hout, ← hany, ← hhome, ← home1_eq c (k.val + 6) (k0_off22_inb k c2) e11 A,
      ← arrives1_eq c cc0_scratch19 16384 (k.val + 6) (k0_off12_inb k) e1' (k0_off13_inb k) e2' (k0_off22_inb k c2) e11 A,
      ← leaves1_eq c cc0_scratch20 16384 (k.val - 6) (k0_off15_inb k c1) e4 (k0_off13_inb k) e5 (inbB1 (k.val - 6)) rfl G _ rfl]
    exact trip1_mid c k A T v109 (fun _ => Q) _ _ _ _ (over1 c (k.val - 6) G) c1 c2
  · intro h1 h2 Q
    have c1 := (cond3_iff k).mpr h1
    have c2 := fun h => h2 ((cond4_iff k).mp h)
    have e4 : k0_off15 k = ![(k.val - 6) % 6] := by rw [k0_off15_eq k, show k.val % 6 = (k.val - 6) % 6 by omega]
    have e5 : k0_off13 k = ![(k.val - 6) % 6, 0, 0, 0] := by rw [e2, show k.val % 6 = (k.val - 6) % 6 by omega]
    rw [← hin, ← hout, ← hany, ← hhome, ← free1_eq (F := F) c cc0_scratch19 (k.val + 6) (k0_off12_inb k) e1' (k0_off13_inb k) e2',
      ← leaves1_eq c cc0_scratch20 16384 (k.val - 6) (k0_off15_inb k c1) e4 (k0_off13_inb k) e5 (inbB1 (k.val - 6)) rfl G _ rfl]
    exact trip1_last c k A T v109 (fun _ => Q) _ _ _ _ (over1 c (k.val - 6) G) c1 c2
  · intro h1 h2 Q
    have c1 := fun h => h1 ((cond3_iff k).mp h)
    have c2 := (cond4_iff k).mpr h2
    have e11 : k0_off22 k = ![(k.val + 6) % 64, 0, 0, 0] := (k0_off22_eq k).trans (modk h2)
    rw [← free1_eq' (F := F) c cc0_scratch20 k (k0_off12_inb k) e1 (k0_off13_inb k) e2, ← hin, ← hout, ← hany, ← hhome, ← home1_eq c (k.val + 6) (k0_off22_inb k c2) e11 A,
      ← arrives1_eq c cc0_scratch19 16384 (k.val + 6) (k0_off12_inb k) e1' (k0_off13_inb k) e2' (k0_off22_inb k c2) e11 A]
    exact trip1_first c k A T v109 (fun _ => Q) c1 c2

end Cert.KernelIdeal.Hand
end
-- ==== Proof.Fill.lean ====
/- The two ends of a stream: its first six blocks start before the loop, its last six end after it. -/
module

public import proofs.«01_k».proof.Proof.Loop0
public import proofs.«01_k».proof.Proof.Loop1

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "EC" => countersEmb (U := Pipeline.UD sig nD τ)

section Ends

variable {pend free todo over : ℕ → sProp (MM F)}

theorem bigSep_Ico_six (a : ℕ) (A : ℕ → sProp (MM F)) :
    bigSep (Finset.Ico a (a + 6)) A = iprop(A a ∗ A (a + 1) ∗ A (a + 2) ∗ A (a + 3) ∗ A (a + 4) ∗ A (a + 5)) := by
  rw [bigSep_Ico_succ_bot (by omega), bigSep_Ico_succ_bot (by omega), bigSep_Ico_succ_bot (by omega),
    bigSep_Ico_succ_bot (by omega), bigSep_Ico_succ_bot (by omega), bigSep_Ico_one]

/-- The first six blocks, out of a stream at rest. -/
theorem ring_fill : ring pend free todo over 0 0 ⊢ iprop(((free 0 ∗ todo 0) ∗ (free 1 ∗ todo 1) ∗ (free 2 ∗ todo 2)
      ∗ (free 3 ∗ todo 3) ∗ (free 4 ∗ todo 4) ∗ (free 5 ∗ todo 5))
    ∗ (pend 0 -∗ pend 1 -∗ pend 2 -∗ pend 3 -∗ pend 4 -∗ pend 5 -∗ ring pend free todo over 0 6)) := by
  unfold ring
  rw [Finset.Ico_self, Finset.Ico_self, bigSep_Ico_six 0 free, bigSep_Ico_six 0 pend,
    bigSep_Ico_succ_bot (show 0 < 64 by omega) todo, bigSep_Ico_succ_bot (show 1 < 64 by omega) todo,
    bigSep_Ico_succ_bot (show 2 < 64 by omega) todo, bigSep_Ico_succ_bot (show 3 < 64 by omega) todo,
    bigSep_Ico_succ_bot (show 4 < 64 by omega) todo, bigSep_Ico_succ_bot (show 5 < 64 by omega) todo]
  iintro ⟨He, ⟨F0, F1, F2, F3, F4, F5⟩, ⟨T0, T1, T2, T3, T4, T5, T⟩, Ho⟩
  isplitr [He T Ho]; · iframe F0 F1 F2 F3 F4 F5 T0 T1 T2 T3 T4 T5
  iintro P0 P1 P2 P3 P4 P5
  isplitl [P0 P1 P2 P3 P4 P5]; · iframe P0 P1 P2 P3 P4 P5
  isplitl [He]; · iexact He
  isplitl [T]; · iexact T
  iexact Ho

/-- The last six blocks, until the stream is over. -/
theorem ring_drain : ring pend free todo over 58 64 ⊢ iprop((pend 58 ∗ pend 59 ∗ pend 60 ∗ pend 61 ∗ pend 62 ∗ pend 63)
    ∗ ((free 64 ∗ over 58) -∗ (free 65 ∗ over 59) -∗ (free 66 ∗ over 60) -∗ (free 67 ∗ over 61) -∗ (free 68 ∗ over 62)
        -∗ (free 69 ∗ over 63) -∗ ring pend free todo over 64 64)) := by
  unfold ring
  rw [Finset.Ico_self, bigSep_Ico_six 58 pend, bigSep_Ico_six 64 free,
    bigSep_Ico_succ_top (show 0 ≤ 63 by omega) over, bigSep_Ico_succ_top (show 0 ≤ 62 by omega) over,
    bigSep_Ico_succ_top (show 0 ≤ 61 by omega) over, bigSep_Ico_succ_top (show 0 ≤ 60 by omega) over,
    bigSep_Ico_succ_top (show 0 ≤ 59 by omega) over, bigSep_Ico_succ_top (show 0 ≤ 58 by omega) over]
  iintro ⟨P, He, Ht, Ho⟩
  isplitl [P]; · iexact P
  iintro ⟨F0, O0⟩ ⟨F1, O1⟩ ⟨F2, O2⟩ ⟨F3, O3⟩ ⟨F4, O4⟩ ⟨F5, O5⟩
  isplitl [He]; · iexact He
  isplitl [F0 F1 F2 F3 F4 F5]; · iframe F0 F1 F2 F3 F4 F5
  isplitl [Ht]; · iexact Ht
  iframe Ho O0 O1 O2 O3 O4 O5

end Ends

theorem off1_mod {b n : ℕ} (h : b < n) : (![b] : Fin 1 → ℕ) = ![b % n] := by rw [Nat.mod_eq_of_lt h]
theorem off4_mod {b n : ℕ} (h : b < n) : (![b, 0, 0, 0] : Fin 4 → ℕ) = ![b % n, 0, 0, 0] := by rw [Nat.mod_eq_of_lt h]

theorem lt64 {b : ℕ} (h : b < 6) : b < 64 := by omega

theorem inbC {b : ℕ} (h : b < 6) : ∀ a, (![b] : Fin 1 → ℕ) a + S1.size a ≤ S6.size a := by
  intro a; fin_cases a; show b + 1 ≤ 6; omega

section Layer0

variable (c : Dev nD) (b : ℕ)

theorem inbS0 {b : ℕ} (h : b < 6) : ∀ a, (![b, 0, 0, 0] : Fin 4 → ℕ) a + S1x2x8x25088.size a ≤ S6x2x8x25088.size a := by
  intro a; fin_cases a <;> first | (show b + 1 ≤ 6; omega) | exact Nat.le_refl _
theorem inbA0 {b : ℕ} (h : b < 64) : ∀ a, (![b, 0, 0, 0] : Fin 4 → ℕ) a + S1x2x8x25088.size a ≤ S64x2x8x25088.size a := by
  intro a; fin_cases a <;> first | (show b + 1 ≤ 64; omega) | exact Nat.le_refl _

/-- Block `b < 6` of layer 0 at home and its slot at rest. -/
abbrev st0 (A : CT F c aA) (h : b < 6) : sProp (MM F) :=
  iprop((semVal ((c : Thread nD τ), SemLoc.dma (cellAt cc0_scratch17 ![b] (inbC h))) 0
    ∗ ∃ f : CT F c sI, own c (slot0 sI ![b, 0, 0, 0] (inbS0 h)) f)
    ∗ own c (blk0 aA ![b, 0, 0, 0] (inbA0 (lt64 h))) A)

/-- Block `b < 6` of layer 0 on its way into its slot. -/
abbrev ar0 (A : CT F c aA) (h : b < 6) : sProp (MM F) :=
  into c (cellAt cc0_scratch17 ![b] (inbC h)) 50176 (slot0 sI ![b, 0, 0, 0] (inbS0 h)) (blk0 aA ![b, 0, 0, 0] (inbA0 (lt64 h)))
    ((blk0 aA ![b, 0, 0, 0] (inbA0 (lt64 h))).view.read (Elt F) A) A

theorem st0_eq (A : CT F c aA) (h : b < 6) :
    iprop(slotFree c (cellF cc0_scratch17) (slotF0 sI) b ∗ owns c (blkF0 aA) (fun _ => A) b) = st0 (F := F) c b A h := by
  rw [← free0_eq c cc0_scratch17 b (inbC h) (off1_mod h) (inbS0 h) (off4_mod h),
    ← home0_eq c b (inbA0 (lt64 h)) (off4_mod (by omega)) A]

theorem ar0_eq (A : CT F c aA) (h : b < 6) :
    arrives c (cellF cc0_scratch17) 50176 (slotF0 sI) (blkF0 aA) (fun _ => A) b = ar0 (F := F) c b A h := by
  rw [← arrives0_eq c cc0_scratch17 50176 b (inbC h) (off1_mod h) (inbS0 h) (off4_mod h) (inbA0 (lt64 h)) (off4_mod (by omega)) A]

theorem fill0 (A : CT F c aA) : rd0 c A 0 0 ⊢ iprop((st0 c 0 A (by omega) ∗ st0 c 1 A (by omega) ∗ st0 c 2 A (by omega)
      ∗ st0 c 3 A (by omega) ∗ st0 c 4 A (by omega) ∗ st0 c 5 A (by omega))
    ∗ (ar0 c 0 A (by omega) -∗ ar0 c 1 A (by omega) -∗ ar0 c 2 A (by omega) -∗ ar0 c 3 A (by omega) -∗ ar0 c 4 A (by omega)
        -∗ ar0 c 5 A (by omega) -∗ rd0 c A 0 6)) := by
  have h := ring_fill (pend := arrives c (cellF cc0_scratch17) 50176 (slotF0 sI) (blkF0 aA) fun _ => A)
    (free := slotFree c (cellF cc0_scratch17) (slotF0 sI)) (todo := owns c (blkF0 aA) fun _ => A) (over := owns c (blkF0 aA) fun _ => A)
  simp only [st0_eq c 0 A (by omega), st0_eq c 1 A (by omega), st0_eq c 2 A (by omega), st0_eq c 3 A (by omega),
    st0_eq c 4 A (by omega), st0_eq c 5 A (by omega), ar0_eq c 0 A (by omega), ar0_eq c 1 A (by omega), ar0_eq c 2 A (by omega),
    ar0_eq c 3 A (by omega), ar0_eq c 4 A (by omega), ar0_eq c 5 A (by omega)] at h
  exact h

/-- Block `b` of layer 0 on its way out of slot `s`. -/
abbrev lv0 (s : ℕ) (G : CT F c aO) (h : b < 64) (h' : s < 6) : sProp (MM F) :=
  iprop(∃ fs : CT F c sO, into c (cellAt cc0_scratch18 ![s] (inbC h')) 50176 (blk0 aO ![b, 0, 0, 0] (inbA0 h)) (slot0 sO ![s, 0, 0, 0] (inbS0 h'))
    ((blk0 aO ![b, 0, 0, 0] (inbA0 h)).view.read (Elt F) G) fs)

/-- Block `b` of layer 0 out, and slot `s` at rest. -/
abbrev out0 (s : ℕ) (G : CT F c aO) (h : b < 64) (h' : s < 6) : sProp (MM F) :=
  iprop((semVal ((c : Thread nD τ), SemLoc.dma (cellAt cc0_scratch18 ![s] (inbC h'))) 0
      ∗ ∃ f : CT F c sO, own c (slot0 sO ![s, 0, 0, 0] (inbS0 h')) f)
    ∗ ∃ g : CT F c aO, ⌜(blk0 aO ![b, 0, 0, 0] (inbA0 h)).view.read (Elt F) g = (blk0 aO ![b, 0, 0, 0] (inbA0 h)).view.read (Elt F) G⌝
      ∗ own c (blk0 aO ![b, 0, 0, 0] (inbA0 h)) g)

theorem lv0_eq (s : ℕ) (G : CT F c aO) (h : b < 64) (h' : s < 6) (e : s = b % 6) :
    leaves c (cellF cc0_scratch18) 50176 (slotF0 sO) (blkF0 aO) (fun _ => G) b = lv0 (F := F) c b s G h h' := by
  rw [← leaves0_eq c cc0_scratch18 50176 b (inbC h') (by rw [e]) (inbS0 h') (by rw [e]) (inbA0 h) (off4_mod h) G _ rfl]

theorem out0_to (b' s : ℕ) (G : CT F c aO) (h : b < 64) (h' : s < 6) (e : s = b' % 6) :
    out0 (F := F) c b s G h h' ⊢ iprop(slotFree c (cellF cc0_scratch18) (slotF0 sO) b' ∗ owns c (blkF0 aO) (fun _ => G) b) := by
  rw [← free0_eq' c cc0_scratch18 b' (inbC h') (by rw [e]) (inbS0 h') (by rw [e])]
  iintro ⟨Hf, %g, %hg, Hg⟩
  isplitl [Hf]; · iexact Hf
  have e' : (![b, 0, 0, 0] : Fin 4 → ℕ) = ![b % 64, 0, 0, 0] := off4_mod h
  generalize_proofs p at hg ⊢
  revert p
  rw [e']
  intro p hg
  iapply (Entails.of_eq (own_congr c (blkF0 aO b) hg)) $$ Hg

theorem drain0 (G : CT F c aO) : wr0 c G 58 64 ⊢ iprop((lv0 c 58 4 G (by omega) (by omega) ∗ lv0 c 59 5 G (by omega) (by omega)
      ∗ lv0 c 60 0 G (by omega) (by omega) ∗ lv0 c 61 1 G (by omega) (by omega) ∗ lv0 c 62 2 G (by omega) (by omega)
      ∗ lv0 c 63 3 G (by omega) (by omega))
    ∗ (out0 c 58 4 G (by omega) (by omega) -∗ out0 c 59 5 G (by omega) (by omega) -∗ out0 c 60 0 G (by omega) (by omega)
        -∗ out0 c 61 1 G (by omega) (by omega) -∗ out0 c 62 2 G (by omega) (by omega) -∗ out0 c 63 3 G (by omega) (by omega)
        -∗ wr0 c G 64 64)) := by
  have h := ring_drain (pend := leaves c (cellF cc0_scratch18) 50176 (slotF0 sO) (blkF0 aO) fun _ => G)
    (free := slotFree c (cellF cc0_scratch18) (slotF0 sO)) (todo := anys c (blkF0 aO)) (over := owns c (blkF0 aO) fun _ => G)
  rw [lv0_eq c 58 4 G (by omega) (by omega) rfl, lv0_eq c 59 5 G (by omega) (by omega) rfl, lv0_eq c 60 0 G (by omega) (by omega) rfl,
    lv0_eq c 61 1 G (by omega) (by omega) rfl, lv0_eq c 62 2 G (by omega) (by omega) rfl, lv0_eq c 63 3 G (by omega) (by omega) rfl] at h
  refine BIBase.Entails.trans h ?_
  iintro ⟨Hp, H⟩
  isplitl [Hp]; · iexact Hp
  iintro H0 H1 H2 H3 H4 H5
  iapply H $$ [H0] [H1] [H2] [H3] [H4] [H5]
  · iapply (out0_to c 58 64 4 G _ _ rfl) $$ H0
  · iapply (out0_to c 59 65 5 G _ _ rfl) $$ H1
  · iapply (out0_to c 60 66 0 G _ _ rfl) $$ H2
  · iapply (out0_to c 61 67 1 G _ _ rfl) $$ H3
  · iapply (out0_to c 62 68 2 G _ _ rfl) $$ H4
  · iapply (out0_to c 63 69 3 G _ _ rfl) $$ H5

end Layer0

section Layer1

variable (c : Dev nD) (b : ℕ)

theorem inbS1 {b : ℕ} (h : b < 6) : ∀ a, (![b, 0, 0, 0] : Fin 4 → ℕ) a + S1x2x256x256.size a ≤ S6x2x256x256.size a := by
  intro a; fin_cases a <;> first | (show b + 1 ≤ 6; omega) | exact Nat.le_refl _
theorem inbA1 {b : ℕ} (h : b < 64) : ∀ a, (![b, 0, 0, 0] : Fin 4 → ℕ) a + S1x2x256x256.size a ≤ S64x2x256x256.size a := by
  intro a; fin_cases a <;> first | (show b + 1 ≤ 64; omega) | exact Nat.le_refl _

/-- Block `b < 6` of layer 1 at home and its slot at rest. -/
abbrev st1 (A : CT F c aA1) (h : b < 6) : sProp (MM F) :=
  iprop((semVal ((c : Thread nD τ), SemLoc.dma (cellAt cc0_scratch19 ![b] (inbC h))) 0
    ∗ ∃ f : CT F c sI1, own c (slot1 sI1 ![b, 0, 0, 0] (inbS1 h)) f)
    ∗ own c (blk1 aA1 ![b, 0, 0, 0] (inbA1 (lt64 h))) A)

/-- Block `b < 6` of layer 1 on its way into its slot. -/
abbrev ar1 (A : CT F c aA1) (h : b < 6) : sProp (MM F) :=
  into c (cellAt cc0_scratch19 ![b] (inbC h)) 16384 (slot1 sI1 ![b, 0, 0, 0] (inbS1 h)) (blk1 aA1 ![b, 0, 0, 0] (inbA1 (lt64 h)))
    ((blk1 aA1 ![b, 0, 0, 0] (inbA1 (lt64 h))).view.read (Elt F) A) A

theorem st1_eq (A : CT F c aA1) (h : b < 6) :
    iprop(slotFree c (cellF cc0_scratch19) (slotF1 sI1) b ∗ owns c (blkF1 aA1) (fun _ => A) b) = st1 (F := F) c b A h := by
  rw [← free1_eq c cc0_scratch19 b (inbC h) (off1_mod h) (inbS1 h) (off4_mod h),
    ← home1_eq c b (inbA1 (lt64 h)) (off4_mod (by omega)) A]

theorem ar1_eq (A : CT F c aA1) (h : b < 6) :
    arrives c (cellF cc0_scratch19) 16384 (slotF1 sI1) (blkF1 aA1) (fun _ => A) b = ar1 (F := F) c b A h := by
  rw [← arrives1_eq c cc0_scratch19 16384 b (inbC h) (off1_mod h) (inbS1 h) (off4_mod h) (inbA1 (lt64 h)) (off4_mod (by omega)) A]

theorem fill1 (A : CT F c aA1) : rd1 c A 0 0 ⊢ iprop((st1 c 0 A (by omega) ∗ st1 c 1 A (by omega) ∗ st1 c 2 A (by omega)
      ∗ st1 c 3 A (by omega) ∗ st1 c 4 A (by omega) ∗ st1 c 5 A (by omega))
    ∗ (ar1 c 0 A (by omega) -∗ ar1 c 1 A (by omega) -∗ ar1 c 2 A (by omega) -∗ ar1 c 3 A (by omega) -∗ ar1 c 4 A (by omega)
        -∗ ar1 c 5 A (by omega) -∗ rd1 c A 0 6)) := by
  have h := ring_fill (pend := arrives c (cellF cc0_scratch19) 16384 (slotF1 sI1) (blkF1 aA1) fun _ => A)
    (free := slotFree c (cellF cc0_scratch19) (slotF1 sI1)) (todo := owns c (blkF1 aA1) fun _ => A) (over := owns c (blkF1 aA1) fun _ => A)
  simp only [st1_eq c 0 A (by omega), st1_eq c 1 A (by omega), st1_eq c 2 A (by omega), st1_eq c 3 A (by omega),
    st1_eq c 4 A (by omega), st1_eq c 5 A (by omega), ar1_eq c 0 A (by omega), ar1_eq c 1 A (by omega), ar1_eq c 2 A (by omega),
    ar1_eq c 3 A (by omega), ar1_eq c 4 A (by omega), ar1_eq c 5 A (by omega)] at h
  exact h

/-- Block `b` of layer 1 on its way out of slot `s`. -/
abbrev lv1 (s : ℕ) (G : CT F c aO1) (h : b < 64) (h' : s < 6) : sProp (MM F) :=
  iprop(∃ fs : CT F c sO1, into c (cellAt cc0_scratch20 ![s] (inbC h')) 16384 (blk1 aO1 ![b, 0, 0, 0] (inbA1 h)) (slot1 sO1 ![s, 0, 0, 0] (inbS1 h'))
    ((blk1 aO1 ![b, 0, 0, 0] (inbA1 h)).view.read (Elt F) G) fs)

/-- Block `b` of layer 1 out, and slot `s` at rest. -/
abbrev out1 (s : ℕ) (G : CT F c aO1) (h : b < 64) (h' : s < 6) : sProp (MM F) :=
  iprop((semVal ((c : Thread nD τ), SemLoc.dma (cellAt cc0_scratch20 ![s] (inbC h'))) 0
      ∗ ∃ f : CT F c sO1, own c (slot1 sO1 ![s, 0, 0, 0] (inbS1 h')) f)
    ∗ ∃ g : CT F c aO1, ⌜(blk1 aO1 ![b, 0, 0, 0] (inbA1 h)).view.read (Elt F) g = (blk1 aO1 ![b, 0, 0, 0] (inbA1 h)).view.read (Elt F) G⌝
      ∗ own c (blk1 aO1 ![b, 0, 0, 0] (inbA1 h)) g)

theorem lv1_eq (s : ℕ) (G : CT F c aO1) (h : b < 64) (h' : s < 6) (e : s = b % 6) :
    leaves c (cellF cc0_scratch20) 16384 (slotF1 sO1) (blkF1 aO1) (fun _ => G) b = lv1 (F := F) c b s G h h' := by
  rw [← leaves1_eq c cc0_scratch20 16384 b (inbC h') (by rw [e]) (inbS1 h') (by rw [e]) (inbA1 h) (off4_mod h) G _ rfl]

theorem out1_to (b' s : ℕ) (G : CT F c aO1) (h : b < 64) (h' : s < 6) (e : s = b' % 6) :
    out1 (F := F) c b s G h h' ⊢ iprop(slotFree c (cellF cc0_scratch20) (slotF1 sO1) b' ∗ owns c (blkF1 aO1) (fun _ => G) b) := by
  rw [← free1_eq' c cc0_scratch20 b' (inbC h') (by rw [e]) (inbS1 h') (by rw [e])]
  iintro ⟨Hf, %g, %hg, Hg⟩
  isplitl [Hf]; · iexact Hf
  have e' : (![b, 0, 0, 0] : Fin 4 → ℕ) = ![b % 64, 0, 0, 0] := off4_mod h
  generalize_proofs p at hg ⊢
  revert p
  rw [e']
  intro p hg
  iapply (Entails.of_eq (own_congr c (blkF1 aO1 b) hg)) $$ Hg

theorem drain1 (G : CT F c aO1) : wr1 c G 58 64 ⊢ iprop((lv1 c 58 4 G (by omega) (by omega) ∗ lv1 c 59 5 G (by omega) (by omega)
      ∗ lv1 c 60 0 G (by omega) (by omega) ∗ lv1 c 61 1 G (by omega) (by omega) ∗ lv1 c 62 2 G (by omega) (by omega)
      ∗ lv1 c 63 3 G (by omega) (by omega))
    ∗ (out1 c 58 4 G (by omega) (by omega) -∗ out1 c 59 5 G (by omega) (by omega) -∗ out1 c 60 0 G (by omega) (by omega)
        -∗ out1 c 61 1 G (by omega) (by omega) -∗ out1 c 62 2 G (by omega) (by omega) -∗ out1 c 63 3 G (by omega) (by omega)
        -∗ wr1 c G 64 64)) := by
  have h := ring_drain (pend := leaves c (cellF cc0_scratch20) 16384 (slotF1 sO1) (blkF1 aO1) fun _ => G)
    (free := slotFree c (cellF cc0_scratch20) (slotF1 sO1)) (todo := anys c (blkF1 aO1)) (over := owns c (blkF1 aO1) fun _ => G)
  rw [lv1_eq c 58 4 G (by omega) (by omega) rfl, lv1_eq c 59 5 G (by omega) (by omega) rfl, lv1_eq c 60 0 G (by omega) (by omega) rfl,
    lv1_eq c 61 1 G (by omega) (by omega) rfl, lv1_eq c 62 2 G (by omega) (by omega) rfl, lv1_eq c 63 3 G (by omega) (by omega) rfl] at h
  refine BIBase.Entails.trans h ?_
  iintro ⟨Hp, H⟩
  isplitl [Hp]; · iexact Hp
  iintro H0 H1 H2 H3 H4 H5
  iapply H $$ [H0] [H1] [H2] [H3] [H4] [H5]
  · iapply (out1_to c 58 64 4 G _ _ rfl) $$ H0
  · iapply (out1_to c 59 65 5 G _ _ rfl) $$ H1
  · iapply (out1_to c 60 66 0 G _ _ rfl) $$ H2
  · iapply (out1_to c 61 67 1 G _ _ rfl) $$ H3
  · iapply (out1_to c 62 68 2 G _ _ rfl) $$ H4
  · iapply (out1_to c 63 69 3 G _ _ rfl) $$ H5

end Layer1

end Cert.KernelIdeal.Hand
end
-- ==== Proof.Body.lean ====
/- The body -/
module

public import Idealize.ShloMosaic.Lib.VecWindow
public import proofs.«01_k».proof.Proof.Fill

@[expose] public section

set_option maxRecDepth 16384
set_option maxHeartbeats 4000000

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "EC" => countersEmb (U := Pipeline.UD sig nD τ)

/-- A load covered by one store of everything reads what was stored. -/
theorem cov_whole {κ : Kind} {sp : Space} {s : Shape} {e : EltTy} {Val : EltTy → Type} [∀ e, Nonempty (Val e)] (v : View sig κ sp s e)
    (P : s.Idx → Val e) (B : LoadRect s) : v.readCov [⟨Rect.whole s, P⟩] B = fun x => P (B.idx x) :=
  funext fun x => congrFun (View.read_writes_whole v v.junk P) (B.idx x)

theorem cov_all {κ : Kind} {sp : Space} {s : Shape} {e : EltTy} {Val : EltTy → Type} [∀ e, Nonempty (Val e)] (v : View sig κ sp s e)
    (P : s.Idx → Val e) {off : Fin s.rank → ℕ} (inb : ∀ a, off a + s.size a ≤ s.size a) :
    v.readCov [⟨Rect.whole s, P⟩] (Rect.unit off s.size inb).toLoadRect = P :=
  (View.readAt_full v _ inb).trans (View.read_writes_whole v v.junk P)

theorem own_of_read (c : Dev nD) {sp : Space} {S : Shape} {e : EltTy} (M : Memref sig .tc sp S e) {f g : CT F c M}
    (h : M.view.read (Elt F) f = M.view.read (Elt F) g) : own (F := F) c M f ⊢ own c M g :=
  BIBase.Entails.of_eq (own_congr c M h)

theorem inv0_start (c : Dev nD) (A : CT F c aA) (G : CT F c aO) (T : CT F c tile) :
    iprop(rd0 c A 0 6 ∗ wr0 c G 0 0 ∗ own c tile T ∗ ∃ W, owes (c : Thread nD τ) 0 W) ⊢ inv0 c A G T 0 := .rfl

theorem trips0 : k0_t1_loop.trips = 64 := by decide
theorem trips1 : k0_t2_loop.trips = 64 := by decide

theorem inv0_end (c : Dev nD) (A : CT F c aA) (G : CT F c aO) (T : CT F c tile) :
    inv0 c A G T k0_t1_loop.trips ⊢ iprop(rd0 c A 64 64 ∗ wr0 c G 58 64 ∗ own c tile T ∗ ∃ W, owes (c : Thread nD τ) 0 W) := by
  rw [trips0]; exact .rfl

theorem inv1_start (c : Dev nD) (A : CT F c aA1) (G : CT F c aO1) (T : CT F c wet) :
    iprop(rd1 c A 0 6 ∗ wr1 c G 0 0 ∗ own c wet T ∗ ∃ W, owes (c : Thread nD τ) 0 W) ⊢ inv1 c A G T 0 := .rfl

theorem inv1_end (c : Dev nD) (A : CT F c aA1) (G : CT F c aO1) (T : CT F c wet) :
    inv1 c A G T k0_t2_loop.trips ⊢ iprop(rd1 c A 64 64 ∗ wr1 c G 58 64 ∗ own c wet T ∗ ∃ W, owes (c : Thread nD τ) 0 W) := by
  rw [trips1]; exact .rfl

/-- One column of a table [16,1,3]. -/
def col (off : Fin 3 → ℕ) (inb : ∀ a, off a + S16x1x1.size a ≤ S16x1x3.size a) (P : Vec F S16x1x3 .f32) : Vec F S16x1x1 .f32 :=
  fun x => P ((Rect.unit (s := S16x1x3) off S16x1x1.size inb).toLoadRect.idx x)

theorem body_run (c : Dev nD) (A : CT F c aA) (G : CT F c aO) (A1 : CT F c aA1) (G1 : CT F c aO1) (W2 : CT F c (Memref.whole main_arg2)) (B0 : CT F c (Memref.whole main_v15)) (B1 : CT F c (Memref.whole main_v16)) (B2 : CT F c (Memref.whole main_v17)) (E : CT F c (Memref.whole main_v3)) (Eb : CT F c (Memref.whole main_v5)) (IT : CT F c (Memref.whole main_v10)) (OT : CT F c (Memref.whole main_v12)) (OC : CT F c (Memref.whole main_v14))
    (E' : CT F c wet) (hE : wet.view.read (Elt F) E' = (Memref.whole main_v3).view.read (Elt F) E)
    (T : CT F c tile) (hT : tile.view.read (Elt F) T = k0_pay4 ((Memref.whole main_v10).view.read (Elt F) IT)
      (k0_pay3 (col ![0, 0, 0] inb_S16x1x3_S16x1x1_0_0_0 ((Memref.whole main_v3).view.read (Elt F) E))))
    (hG : ∀ k : Fin k0_t1_loop.trips, (blk0 aO (k0_off3 k) (k0_off3_inb k)).view.read (Elt F) G = val0' c k A T)
    (hG1 : ∀ k : Fin k0_t2_loop.trips, (blk1 aO1 (k0_off14 k) (k0_off14_inb k)).view.read (Elt F) G1 = val1' c k A1 E')
    (G2 : CT F c (Memref.whole main_v18_2)) (hG2 : (Memref.whole main_v18_2).view.read (Elt F) G2
      = k0_pay6 (k0_pay5 (col ![0, 0, 2] inb_S16x1x3_S16x1x1_0_0_2 ((Memref.whole main_v3).view.read (Elt F) E)))
          ((Memref.whole main_arg2).view.read (Elt F) W2) ((Memref.whole main_v14).view.read (Elt F) OC))
    (G3 : CT F c (Memref.whole main_v18_3)) (hG3 : (Memref.whole main_v18_3).view.read (Elt F) G3
      = k0_pay7 ((Memref.whole main_v15).view.read (Elt F) B0)
          (col ![0, 0, 0] inb_S16x1x3_S16x1x1_0_0_0 ((Memref.whole main_v5).view.read (Elt F) Eb)))
    (G4 : CT F c (Memref.whole main_v18_4)) (hG4 : (Memref.whole main_v18_4).view.read (Elt F) G4
      = k0_pay9 (k0_pay8 ((Memref.whole main_v16).view.read (Elt F) B1)
          (col ![0, 0, 1] inb_S16x1x3_S16x1x1_0_0_1 ((Memref.whole main_v5).view.read (Elt F) Eb))))
    (G5 : CT F c (Memref.whole main_v18_5)) (hG5 : (Memref.whole main_v18_5).view.read (Elt F) G5
      = k0_pay10 ((Memref.whole main_v17).view.read (Elt F) B2)
          (col ![0, 0, 2] inb_S16x1x3_S16x1x1_0_0_2 ((Memref.whole main_v5).view.read (Elt F) Eb))
          ((Memref.whole main_v12).view.read (Elt F) OT))
    (_p1 : Transfers.BatchOf (c : Thread nD τ) (SemLoc.dma (sig := sig) (SemArray.sem cc0_scratch22)) 2)
    (_p2 : Transfers.BatchOf (c : Thread nD τ) (SemLoc.dma (sig := sig) (SemArray.sem cc0_scratch23)) 2) :
    iprop(rd0 c A 0 0
      ∗ wr0 c G 0 0
      ∗ rd1 c A1 0 0
      ∗ wr1 c G1 0 0
      ∗ own c (Memref.whole main_arg2) W2
      ∗ own c (Memref.whole main_v15) B0
      ∗ own c (Memref.whole main_v16) B1
      ∗ own c (Memref.whole main_v17) B2
      ∗ own c (Memref.whole main_v3) E
      ∗ own c (Memref.whole main_v5) Eb
      ∗ own c (Memref.whole main_v10) IT
      ∗ own c (Memref.whole main_v12) OT
      ∗ own c (Memref.whole main_v14) OC
      ∗ (∃ g : CT F c (Memref.whole main_v18_2), own c (Memref.whole main_v18_2) g)
      ∗ (∃ g : CT F c (Memref.whole main_v18_3), own c (Memref.whole main_v18_3) g)
      ∗ (∃ g : CT F c (Memref.whole main_v18_4), own c (Memref.whole main_v18_4) g)
      ∗ (∃ g : CT F c (Memref.whole main_v18_5), own c (Memref.whole main_v18_5) g)
      ∗ (∃ g : CT F c (Memref.whole cc0_scratch4), own c (Memref.whole cc0_scratch4) g)
      ∗ (∃ g : CT F c (Memref.whole cc0_scratch5), own c (Memref.whole cc0_scratch5) g)
      ∗ (∃ g : CT F c (Memref.whole cc0_scratch6), own c (Memref.whole cc0_scratch6) g)
      ∗ (∃ g : CT F c (Memref.whole cc0_scratch7), own c (Memref.whole cc0_scratch7) g)
      ∗ (∃ g : CT F c (Memref.whole cc0_scratch8), own c (Memref.whole cc0_scratch8) g)
      ∗ (∃ g : CT F c (Memref.whole cc0_scratch9), own c (Memref.whole cc0_scratch9) g)
      ∗ (∃ g : CT F c (Memref.whole cc0_scratch10), own c (Memref.whole cc0_scratch10) g)
      ∗ (∃ g : CT F c (Memref.whole cc0_scratch11), own c (Memref.whole cc0_scratch11) g)
      ∗ (∃ g : CT F c (Memref.whole cc0_scratch12), own c (Memref.whole cc0_scratch12) g)
      ∗ (∃ g : CT F c (Memref.whole cc0_scratch13), own c (Memref.whole cc0_scratch13) g)
      ∗ (∃ g : CT F c (Memref.whole cc0_scratch14), own c (Memref.whole cc0_scratch14) g)
      ∗ (∃ g : CT F c (Memref.whole cc0_scratch15), own c (Memref.whole cc0_scratch15) g)
      ∗ (∃ g : CT F c (Memref.whole cc0_scratch16), own c (Memref.whole cc0_scratch16) g)
      ∗ semVal ((c : Thread nD τ), SemLoc.dma (SemArray.sem cc0_scratch21)) 0
      ∗ semVal ((c : Thread nD τ), SemLoc.dma (SemArray.sem cc0_scratch22)) 0
      ∗ semVal ((c : Thread nD τ), SemLoc.dma (SemArray.sem cc0_scratch23)) 0
      ∗ semVal ((c : Thread nD τ), SemLoc.dma (SemArray.sem cc0_scratch24)) 0
      ∗ semVal ((c : Thread nD τ), SemLoc.dma (SemArray.sem cc0_scratch25)) 0
      ∗ semVal ((c : Thread nD τ), SemLoc.dma (SemArray.sem cc0_scratch26)) 0
      ∗ semVal ((c : Thread nD τ), SemLoc.dma (SemArray.sem cc0_scratch27)) 0
      ∗ (∃ W, owes (c : Thread nD τ) 0 W))
    ⊢ wp frame (wpE (defs₀ (F := F)) Variants.none c none) Set.univ (cc0__body (F := F) (Memref.whole main_v0) (Memref.isWhole_whole _) (Memref.whole main_v1) (Memref.isWhole_whole _) (Memref.whole main_arg2) (Memref.isWhole_whole _) (Memref.whole main_v15) (Memref.isWhole_whole _) (Memref.whole main_v16) (Memref.isWhole_whole _) (Memref.whole main_v17) (Memref.isWhole_whole _) (Memref.whole main_v3) (Memref.isWhole_whole _) (Memref.whole main_v5) (Memref.isWhole_whole _) (Memref.whole main_v10) (Memref.isWhole_whole _) (Memref.whole main_v12) (Memref.isWhole_whole _) (Memref.whole main_v14) (Memref.isWhole_whole _) (Memref.whole main_v18_0) (Memref.isWhole_whole _) (Memref.whole main_v18_1) (Memref.isWhole_whole _) (Memref.whole main_v18_2) (Memref.isWhole_whole _) (Memref.whole main_v18_3) (Memref.isWhole_whole _) (Memref.whole main_v18_4) (Memref.isWhole_whole _) (Memref.whole main_v18_5) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) (Memref.whole cc0_scratch14) (Memref.isWhole_whole _) (Memref.whole cc0_scratch15) (Memref.isWhole_whole _) (Memref.whole cc0_scratch16) (Memref.isWhole_whole _) cc0_scratch17 cc0_scratch18 cc0_scratch19 cc0_scratch20 cc0_scratch21 cc0_scratch22 cc0_scratch23 cc0_scratch24 cc0_scratch25 cc0_scratch26 cc0_scratch27) fun _ =>
      iprop(rd0 c A 64 64
      ∗ wr0 c G 64 64
      ∗ rd1 c A1 64 64
      ∗ wr1 c G1 64 64
      ∗ own c (Memref.whole main_arg2) W2
      ∗ own c (Memref.whole main_v15) B0
      ∗ own c (Memref.whole main_v16) B1
      ∗ own c (Memref.whole main_v17) B2
      ∗ own c (Memref.whole main_v3) E
      ∗ own c (Memref.whole main_v5) Eb
      ∗ own c (Memref.whole main_v10) IT
      ∗ own c (Memref.whole main_v12) OT
      ∗ own c (Memref.whole main_v14) OC
      ∗ own c (Memref.whole main_v18_2) G2
      ∗ own c (Memref.whole main_v18_3) G3
      ∗ own c (Memref.whole main_v18_4) G4
      ∗ own c (Memref.whole main_v18_5) G5
      ∗ (∃ g : CT F c (Memref.whole cc0_scratch4), own c (Memref.whole cc0_scratch4) g)
      ∗ (∃ g : CT F c (Memref.whole cc0_scratch5), own c (Memref.whole cc0_scratch5) g)
      ∗ (∃ g : CT F c (Memref.whole cc0_scratch6), own c (Memref.whole cc0_scratch6) g)
      ∗ (∃ g : CT F c (Memref.whole cc0_scratch7), own c (Memref.whole cc0_scratch7) g)
      ∗ (∃ g : CT F c (Memref.whole cc0_scratch8), own c (Memref.whole cc0_scratch8) g)
      ∗ (∃ g : CT F c (Memref.whole cc0_scratch9), own c (Memref.whole cc0_scratch9) g)
      ∗ (∃ g : CT F c (Memref.whole cc0_scratch10), own c (Memref.whole cc0_scratch10) g)
      ∗ (∃ g : CT F c (Memref.whole cc0_scratch11), own c (Memref.whole cc0_scratch11) g)
      ∗ (∃ g : CT F c (Memref.whole cc0_scratch12), own c (Memref.whole cc0_scratch12) g)
      ∗ (∃ g : CT F c (Memref.whole cc0_scratch13), own c (Memref.whole cc0_scratch13) g)
      ∗ (∃ g : CT F c (Memref.whole cc0_scratch14), own c (Memref.whole cc0_scratch14) g)
      ∗ (∃ g : CT F c (Memref.whole cc0_scratch15), own c (Memref.whole cc0_scratch15) g)
      ∗ (∃ g : CT F c (Memref.whole cc0_scratch16), own c (Memref.whole cc0_scratch16) g)
      ∗ semVal ((c : Thread nD τ), SemLoc.dma (SemArray.sem cc0_scratch21)) 0
      ∗ semVal ((c : Thread nD τ), SemLoc.dma (SemArray.sem cc0_scratch22)) 0
      ∗ semVal ((c : Thread nD τ), SemLoc.dma (SemArray.sem cc0_scratch23)) 0
      ∗ semVal ((c : Thread nD τ), SemLoc.dma (SemArray.sem cc0_scratch24)) 0
      ∗ semVal ((c : Thread nD τ), SemLoc.dma (SemArray.sem cc0_scratch25)) 0
      ∗ semVal ((c : Thread nD τ), SemLoc.dma (SemArray.sem cc0_scratch26)) 0
      ∗ semVal ((c : Thread nD τ), SemLoc.dma (SemArray.sem cc0_scratch27)) 0
      ∗ (∃ W, owes (c : Thread nD τ) 0 W)) := by
  rw [cc0__body_eq_skeleton]
  unfold cc0__body_skel
  rw [k0_part11_eq_skeleton]; unfold k0_part11_skel
  simp only [k0_part3_eq_skeleton, k0_part4_eq_skeleton, k0_part5_eq_skeleton, k0_part6_eq_skeleton, k0_part7_eq_skeleton, k0_part8_eq_skeleton]; unfold k0_part7_skel k0_part8_skel k0_part3_skel k0_part4_skel k0_part5_skel k0_part6_skel
  iintro ⟨HR0, HW0, HR1, HW1, HW2, HB0, HB1, HB2, HE, HEb, HIT, HOT, HOC, ⟨%g2, Hg2⟩, ⟨%g3, Hg3⟩, ⟨%g4, Hg4⟩, ⟨%g5, Hg5⟩, ⟨%s4, Hs4⟩, ⟨%s5, Hs5⟩, ⟨%s6, Hs6⟩, ⟨%s7, Hs7⟩, ⟨%s8, Hs8⟩, ⟨%s9, Hs9⟩, ⟨%s10, Hs10⟩, ⟨%s11, Hs11⟩, ⟨%s12, Hs12⟩, ⟨%s13, Hs13⟩, ⟨%s14, Hs14⟩, ⟨%s15, Hs15⟩, ⟨%s16, Hs16⟩, Hv21, Hv22, Hv23, Hv24, Hv25, Hv26, Hv27, ⟨%W, HW⟩⟩
  ihave ⟨⟨⟨⟨Hc0, %f0, Hf0⟩, Hb0⟩, ⟨⟨Hc1, %f1, Hf1⟩, Hb1⟩, ⟨⟨Hc2, %f2, Hf2⟩, Hb2⟩, ⟨⟨Hc3, %f3, Hf3⟩, Hb3⟩, ⟨⟨Hc4, %f4, Hf4⟩, Hb4⟩, ⟨⟨Hc5, %f5, Hf5⟩, Hb5⟩⟩, HR0⟩ := (fill0 c A) $$ HR0
  sl_exec
  ihave HR0 := HR0 $$ [Hc0] [Hc1] [Hc2] [Hc3] [Hc4] [Hc5]
  · unfold ar0 into; iexists _; isplitr; swap; · iexact Hc0
    ipureintro; exact View.read_writes_whole _ _ _
  · unfold ar0 into; iexists _; isplitr; swap; · iexact Hc1
    ipureintro; exact View.read_writes_whole _ _ _
  · unfold ar0 into; iexists _; isplitr; swap; · iexact Hc2
    ipureintro; exact View.read_writes_whole _ _ _
  · unfold ar0 into; iexists _; isplitr; swap; · iexact Hc3
    ipureintro; exact View.read_writes_whole _ _ _
  · unfold ar0 into; iexists _; isplitr; swap; · iexact Hc4
    ipureintro; exact View.read_writes_whole _ _ _
  · unfold ar0 into; iexists _; isplitr; swap; · iexact Hc5
    ipureintro; exact View.read_writes_whole _ _ _
  rw [Prog.bind_assoc, Prog.bind_assoc]
  sl_for (fun k _ => inv0 c A G T k) $$ [HR0 HW0 Hs16 HW]
  case region => intro k _; exact trip0 c k A T G _ _ (hG k)
  · iapply inv0_start
    isplitl [HR0]; · iexact HR0
    isplitl [HW0]; · iexact HW0
    isplitl [Hs16]
    · iapply (own_of_read c tile (g := T) ?_) $$ Hs16
      rw [hT]
      refine (View.read_writes_full _ _ _ _ _).trans ?_
      unfold body_run.sl.v36 body_run.sl.v37
      dsimp only
      exact congrArg₂ k0_pay4 (cov_all _ _ _) (congrArg k0_pay3 (cov_whole _ _ _))
    iexists _; iexact HW
  iintro %_ HI
  ihave ⟨HR0, HW0, Hs16, %W1, HW⟩ := (inv0_end c A G T) $$ HI
  ihave ⟨⟨⟨⟨Hc0, %u0, Hf0⟩, Hb0⟩, ⟨⟨Hc1, %u1, Hf1⟩, Hb1⟩, ⟨⟨Hc2, %u2, Hf2⟩, Hb2⟩, ⟨⟨Hc3, %u3, Hf3⟩, Hb3⟩, ⟨⟨Hc4, %u4, Hf4⟩, Hb4⟩, ⟨⟨Hc5, %u5, Hf5⟩, Hb5⟩⟩, HR1⟩ := (fill1 c A1) $$ HR1
  sl_exec
  ihave HR1 := HR1 $$ [Hc0] [Hc1] [Hc2] [Hc3] [Hc4] [Hc5]
  · unfold ar1 into; iexists _; isplitr; swap; · iexact Hc0
    ipureintro; exact View.read_writes_whole _ _ _
  · unfold ar1 into; iexists _; isplitr; swap; · iexact Hc1
    ipureintro; exact View.read_writes_whole _ _ _
  · unfold ar1 into; iexists _; isplitr; swap; · iexact Hc2
    ipureintro; exact View.read_writes_whole _ _ _
  · unfold ar1 into; iexists _; isplitr; swap; · iexact Hc3
    ipureintro; exact View.read_writes_whole _ _ _
  · unfold ar1 into; iexists _; isplitr; swap; · iexact Hc4
    ipureintro; exact View.read_writes_whole _ _ _
  · unfold ar1 into; iexists _; isplitr; swap; · iexact Hc5
    ipureintro; exact View.read_writes_whole _ _ _
  rw [Prog.bind_assoc, Prog.bind_assoc]
  sl_for (fun k _ => inv1 c A1 G1 E' k) $$ [HR1 HW1 Hs12 HW]
  case region => intro k _; exact trip1 c k A1 E' G1 _ (hG1 k)
  · iapply inv1_start
    isplitl [HR1]; · iexact HR1
    isplitl [HW1]; · iexact HW1
    isplitl [Hs12]
    · iapply (own_of_read c wet (g := E') ?_) $$ Hs12
      exact (View.read_writes_whole _ _ _).trans hE.symm
    iexists _; iexact HW
  iintro %_ HI
  ihave ⟨HR1, HW1, Hs12, %W2', HW⟩ := (inv1_end c A1 G1 E') $$ HI
  ihave ⟨⟨HL0, HL1, HL2, HL3, HL4, HL5⟩, HW0⟩ := (drain0 c G) $$ HW0
  ihave ⟨⟨HM0, HM1, HM2, HM3, HM4, HM5⟩, HW1⟩ := (drain1 c G1) $$ HW1
  unfold lv0 lv1 into
  icases HL0 with ⟨%xL0, %yL0, %hL0, HL0⟩
  icases HL1 with ⟨%xL1, %yL1, %hL1, HL1⟩
  icases HL2 with ⟨%xL2, %yL2, %hL2, HL2⟩
  icases HL3 with ⟨%xL3, %yL3, %hL3, HL3⟩
  icases HL4 with ⟨%xL4, %yL4, %hL4, HL4⟩
  icases HL5 with ⟨%xL5, %yL5, %hL5, HL5⟩
  icases HM0 with ⟨%xM0, %yM0, %hM0, HM0⟩
  icases HM1 with ⟨%xM1, %yM1, %hM1, HM1⟩
  icases HM2 with ⟨%xM2, %yM2, %hM2, HM2⟩
  icases HM3 with ⟨%xM3, %yM3, %hM3, HM3⟩
  icases HM4 with ⟨%xM4, %yM4, %hM4, HM4⟩
  icases HM5 with ⟨%xM5, %yM5, %hM5, HM5⟩
  sl_exec
  sl_step
  ihave HW0 := HW0 $$ [HL0_dst HL0_src HL0] [HL1_dst HL1_src HL1] [HL2_dst HL2_src HL2] [HL3_dst HL3_src HL3] [HL4_dst HL4_src HL4] [HL5_dst HL5_src HL5]
  · isplitl [HL0 HL0_src]
    · isplitl [HL0]; · iexact HL0
      iexists _; iexact HL0_src
    iexists _; isplitr; swap; · iexact HL0_dst
    ipureintro; exact hL0
  · isplitl [HL1 HL1_src]
    · isplitl [HL1]; · iexact HL1
      iexists _; iexact HL1_src
    iexists _; isplitr; swap; · iexact HL1_dst
    ipureintro; exact hL1
  · isplitl [HL2 HL2_src]
    · isplitl [HL2]; · iexact HL2
      iexists _; iexact HL2_src
    iexists _; isplitr; swap; · iexact HL2_dst
    ipureintro; exact hL2
  · isplitl [HL3 HL3_src]
    · isplitl [HL3]; · iexact HL3
      iexists _; iexact HL3_src
    iexists _; isplitr; swap; · iexact HL3_dst
    ipureintro; exact hL3
  · isplitl [HL4 HL4_src]
    · isplitl [HL4]; · iexact HL4
      iexists _; iexact HL4_src
    iexists _; isplitr; swap; · iexact HL4_dst
    ipureintro; exact hL4
  · isplitl [HL5 HL5_src]
    · isplitl [HL5]; · iexact HL5
      iexists _; iexact HL5_src
    iexists _; isplitr; swap; · iexact HL5_dst
    ipureintro; exact hL5
  ihave HW1 := HW1 $$ [HM0_dst HM0_src HM0] [HM1_dst HM1_src HM1] [HM2_dst HM2_src HM2] [HM3_dst HM3_src HM3] [HM4_dst HM4_src HM4] [HM5_dst HM5_src HM5]
  · isplitl [HM0 HM0_src]
    · isplitl [HM0]; · iexact HM0
      iexists _; iexact HM0_src
    iexists _; isplitr; swap; · iexact HM0_dst
    ipureintro; exact hM0
  · isplitl [HM1 HM1_src]
    · isplitl [HM1]; · iexact HM1
      iexists _; iexact HM1_src
    iexists _; isplitr; swap; · iexact HM1_dst
    ipureintro; exact hM1
  · isplitl [HM2 HM2_src]
    · isplitl [HM2]; · iexact HM2
      iexists _; iexact HM2_src
    iexists _; isplitr; swap; · iexact HM2_dst
    ipureintro; exact hM2
  · isplitl [HM3 HM3_src]
    · isplitl [HM3]; · iexact HM3
      iexists _; iexact HM3_src
    iexists _; isplitr; swap; · iexact HM3_dst
    ipureintro; exact hM3
  · isplitl [HM4 HM4_src]
    · isplitl [HM4]; · iexact HM4
      iexists _; iexact HM4_src
    iexists _; isplitr; swap; · iexact HM4_dst
    ipureintro; exact hM4
  · isplitl [HM5 HM5_src]
    · isplitl [HM5]; · iexact HM5
      iexists _; iexact HM5_src
    iexists _; isplitr; swap; · iexact HM5_dst
    ipureintro; exact hM5
  isplitl [HR0]; · iexact HR0
  isplitl [HW0]; · iexact HW0
  isplitl [HR1]; · iexact HR1
  isplitl [HW1]; · iexact HW1
  isplitl [HW2]; · iexact HW2
  isplitl [HB0]; · iexact HB0
  isplitl [HB1]; · iexact HB1
  isplitl [HB2]; · iexact HB2
  isplitl [HE]; · iexact HE
  isplitl [HEb]; · iexact HEb
  isplitl [HIT]; · iexact HIT
  isplitl [HOT]; · iexact HOT
  isplitl [HOC]; · iexact HOC
  isplitl [Hg2]
  · iapply (own_of_read c (Memref.whole main_v18_2) (g := G2) ?_) $$ Hg2
    refine (View.read_writes_whole _ _ _).trans (Eq.trans ?_ hG2.symm)
    unfold body_run.sl.dma5 body_run.sl.Hs5_1
    refine (View.read_writes_full _ _ _ _ _).trans ?_
    unfold body_run.sl.v82 body_run.sl.v84 body_run.sl.v88
    exact congr (congrArg₂ k0_pay6 (congrArg k0_pay5 (cov_whole _ _ _)) (cov_all _ _ _)) (cov_all _ _ _)
  isplitl [Hg3]
  · iapply (own_of_read c (Memref.whole main_v18_3) (g := G3) ?_) $$ Hg3
    refine (View.read_writes_whole _ _ _).trans (Eq.trans ?_ hG3.symm)
    unfold body_run.sl.dma25 body_run.sl.Hs9_1
    refine (View.read_writes_full _ _ _ _ _).trans ?_
    unfold body_run.sl.v95 body_run.sl.v96
    exact congrArg₂ k0_pay7 (cov_all _ _ _) (cov_whole _ _ _)
  isplitl [Hg4]
  · iapply (own_of_read c (Memref.whole main_v18_4) (g := G4) ?_) $$ Hg4
    refine (View.read_writes_whole _ _ _).trans (Eq.trans ?_ hG4.symm)
    unfold body_run.sl.dma26 body_run.sl.Hs10_1
    refine (View.read_writes_full _ _ _ _ _).trans ?_
    unfold body_run.sl.v104 body_run.sl.v105
    exact congrArg k0_pay9 (congrArg₂ k0_pay8 (cov_all _ _ _) (cov_whole _ _ _))
  isplitl [Hg5]
  · iapply (own_of_read c (Memref.whole main_v18_5) (g := G5) ?_) $$ Hg5
    refine (View.read_writes_whole _ _ _).trans (Eq.trans ?_ hG5.symm)
    unfold body_run.sl.dma18 body_run.sl.Hs11_1
    refine (View.read_writes_full _ _ _ _ _).trans ?_
    unfold body_run.sl.v113 body_run.sl.v114 body_run.sl.v119
    exact congr (congrArg₂ k0_pay10 (cov_all _ _ _) (cov_whole _ _ _)) (cov_all _ _ _)
  isplitl [Hs4]; · iexists _; iexact Hs4
  isplitl [Hs5]; · iexists _; iexact Hs5
  isplitl [Hs6]; · iexists _; iexact Hs6
  isplitl [Hs7]; · iexists _; iexact Hs7
  isplitl [Hs8]; · iexists _; iexact Hs8
  isplitl [Hs9]; · iexists _; iexact Hs9
  isplitl [Hs10]; · iexists _; iexact Hs10
  isplitl [Hs11]; · iexists _; iexact Hs11
  isplitl [Hs12]; · iexists _; iexact Hs12
  isplitl [Hs13]; · iexists _; iexact Hs13
  isplitl [Hs14]; · iexists _; iexact Hs14
  isplitl [Hs15]; · iexists _; iexact Hs15
  isplitl [Hs16]; · iexists _; iexact Hs16
  isplitl [Hv21]; · iexact Hv21
  isplitl [Hv22]; · iexact Hv22
  isplitl [Hv23]; · iexact Hv23
  isplitl [Hv24]; · iexact Hv24
  isplitl [Hv25]; · iexact Hv25
  isplitl [Hv26]; · iexact Hv26
  isplitl [Hv27]; · iexact Hv27
  iexists _; iexact HW

end Cert.KernelIdeal.Hand
end
-- ==== Proof.Split.lean ====
/- A buffer held whole is held block by block, at the start and at the end of a stream -/
module

public import Idealize.ShloMosaic.Lib.Ring
public import proofs.«01_k».proof.Proof.Fill

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

section Parts

variable (c : Dev nD) {sp : Space} {s s₁ B : Shape} {e : EltTy} (M : Memref sig .tc sp s e) (n : ℕ)
  (P : ℕ → CT F c M → sProp (MM F)) (K : ℕ → Finset s.Idx)
  (hP : ∀ b f, P b f = M.view.loc (c : Thread nD τ) ↦[(K b).map M.view.emb]{fullShare} f)
  (a₀ : Fin s.rank) (hn : n = s.size a₀) (hK : ∀ b < n, ∀ i : s.Idx, i ∈ K b ↔ (i a₀).val = b)

include hK in
theorem parts_apart (b : ℕ) (hb : b ∈ Finset.Ico 0 n) (b' : ℕ) (hb' : b' ∈ Finset.Ico 0 n) (h : b ≠ b') :
    Disjoint ((K b).map M.view.emb) ((K b').map M.view.emb) := by
  rw [Finset.disjoint_map, Finset.disjoint_left]
  intro i hi hi'
  exact h (((hK b (Finset.mem_Ico.mp hb).2 i).mp hi).symm.trans ((hK b' (Finset.mem_Ico.mp hb').2 i).mp hi'))

include hn hK in
theorem parts_cover : (Finset.Ico 0 n).biUnion (fun b => (K b).map M.view.emb) = M.view.set := by
  ext i
  rw [Finset.mem_biUnion]
  constructor
  · rintro ⟨b, -, hi⟩
    obtain ⟨x, -, rfl⟩ := Finset.mem_map.mp hi
    exact Finset.mem_map_of_mem _ (Finset.mem_univ x)
  · intro hi
    obtain ⟨x, -, rfl⟩ := Finset.mem_map.mp hi
    have hx : (x a₀).val < n := hn ▸ (x a₀).isLt
    exact ⟨(x a₀).val, Finset.mem_Ico.mpr ⟨Nat.zero_le _, hx⟩, Finset.mem_map_of_mem _ ((hK _ hx x).mpr rfl)⟩

include hP hn hK in
/-- A memref's elements are its parts', at one contents; -/
theorem own_parts (f : CT F c M) : own c M f = bigSep (Finset.Ico 0 n) fun b => P b f := by
  unfold own
  rw [← parts_cover M n K a₀ hn hK, pointsTo_biUnion _ _ (parts_apart M n K a₀ hK)]
  exact bigSep_congr fun b _ => (hP b f).symm

include hP hn hK in
/-- and its parts, each at whatever it holds, join. -/
theorem parts_own (f₀ : CT F c M) :
    bigSep (Finset.Ico 0 n) (fun b => iprop(∃ f : CT F c M, P b f)) ⊢ iprop(∃ f : CT F c M, own c M f) := by
  have : Nonempty (CT F c M) := ⟨f₀⟩
  refine (bigSep_exists_pi (Finset.Ico 0 n) (fun b (f : CT F c M) => P b f)).trans ?_
  iintro ⟨%fs, H⟩
  have e : bigSep (Finset.Ico 0 n) (fun b => P b (fs b))
      = bigSep (Finset.Ico 0 n) fun b => (M.view.loc (c : Thread nD τ) ↦[(K b).map M.view.emb]{fullShare} fs b : sProp (MM F)) :=
    bigSep_congr fun b _ => hP b (fs b)
  ihave H := (Entails.of_eq e) $$ H
  ihave ⟨%g, -, H⟩ := (pointsTo_biUnion_join (Finset.Ico 0 n) (fun b => (K b).map M.view.emb) fs f₀ (parts_apart M n K a₀ hK)) $$ H
  iexists g
  iapply (Entails.of_eq (show (M.view.loc (c : Thread nD τ) ↦[(Finset.Ico 0 n).biUnion fun b => (K b).map M.view.emb]{fullShare} g
    : sProp (MM F)) = own c M g by rw [parts_cover M n K a₀ hn hK])) $$ H

end Parts

section Ring

variable {pend free todo over : ℕ → sProp (MM F)}

theorem ring_begin : iprop(bigSep (Finset.Ico 0 6) free ∗ bigSep (Finset.Ico 0 64) todo) ⊢ ring pend free todo over 0 0 := by
  unfold ring
  rw [Finset.Ico_self, bigSep_empty, bigSep_empty]
  iintro ⟨Hf, Ht⟩
  isplitr; · iempintro
  isplitl [Hf]; · iexact Hf
  isplitl [Ht]; · iexact Ht
  iempintro

theorem ring_done (e0 : free 64 = free 4) (e1 : free 65 = free 5) (e2 : free 66 = free 0) (e3 : free 67 = free 1)
    (e4 : free 68 = free 2) (e5 : free 69 = free 3) :
    ring pend free todo over 64 64 ⊢ iprop(bigSep (Finset.Ico 0 6) free ∗ bigSep (Finset.Ico 0 64) over) := by
  unfold ring
  rw [Finset.Ico_self, bigSep_empty, bigSep_empty, bigSep_Ico_six 64, bigSep_Ico_six 0, e0, e1, e2, e3, e4, e5]
  iintro ⟨-, ⟨H4, H5, H0, H1, H2, H3⟩, -, Ho⟩
  isplitr [Ho]; · iframe H0 H1 H2 H3 H4 H5
  iexact Ho

end Ring

/-- The cells of a six-cell semaphore array, all at zero. -/
abbrev cells (c : Dev nD) (A : DmaSems sig S6) : sProp (MM F) :=
  bigSep (Finset.Ico 0 6) fun b => semVal ((c : Thread nD τ), SemLoc.dma (cellF A b)) 0

section Streams

variable (c : Dev nD) (cell : ℕ → DmaSem sig) (N : ℕ) {B : Shape} {e : EltTy}
  (slot : ℕ → Memref sig .tc .vmem B e) (blk : ℕ → Memref sig .tc .hbm B e)

theorem slots_eq : bigSep (Finset.Ico 0 6) (slotFree (F := F) c cell slot)
    = iprop(bigSep (Finset.Ico 0 6) (fun b => semVal ((c : Thread nD τ), SemLoc.dma (cell b)) 0)
      ∗ bigSep (Finset.Ico 0 6) (fun b => iprop(∃ f : CT F c (slot b), own c (slot b) f))) := bigSep_sep _ _ _

theorem rd_begin (A : ∀ b, CT F c (blk b)) :
    iprop(bigSep (Finset.Ico 0 6) (fun b => semVal ((c : Thread nD τ), SemLoc.dma (cell b)) 0)
      ∗ bigSep (Finset.Ico 0 6) (fun b => iprop(∃ f : CT F c (slot b), own c (slot b) f)) ∗ bigSep (Finset.Ico 0 64) (owns c blk A))
    ⊢ rd c cell N slot blk A 0 0 := by
  refine BIBase.Entails.trans ?_ ring_begin
  rw [slots_eq]
  iintro ⟨H1, H2, H3⟩
  iframe H1 H2 H3

theorem wr_begin (G : ∀ b, CT F c (blk b)) :
    iprop(bigSep (Finset.Ico 0 6) (fun b => semVal ((c : Thread nD τ), SemLoc.dma (cell b)) 0)
      ∗ bigSep (Finset.Ico 0 6) (fun b => iprop(∃ f : CT F c (slot b), own c (slot b) f)) ∗ bigSep (Finset.Ico 0 64) (anys c blk))
    ⊢ wr c cell N slot blk G 0 0 := by
  refine BIBase.Entails.trans ?_ ring_begin
  rw [slots_eq]
  iintro ⟨H1, H2, H3⟩
  iframe H1 H2 H3

end Streams

/-- One index along the leading axis, everything along the others. -/
theorem mem_row {s : Shape} {off size : Fin s.rank → ℕ} {inb : ∀ a, off a + size a ≤ s.size a} {a₀ : Fin s.rank} {b : ℕ}
    (h0 : off a₀ = b) (h1 : size a₀ = 1) (h : ∀ a, a ≠ a₀ → off a = 0 ∧ size a = s.size a) (i : s.Idx) :
    i ∈ (Rect.unit (s := s) off size inb).set ↔ (i a₀).val = b := by
  rw [Rect.mem_set_unit]
  constructor
  · intro H
    have := H a₀
    omega
  · intro H a
    by_cases ha : a = a₀
    · subst ha; omega
    · have := h a ha; have := (i a).isLt; omega

theorem inb_blk0 (b : ℕ) : ∀ a, ![b % 64, 0, 0, 0] a + S1x2x8x25088.size a ≤ S64x2x8x25088.size a := by
  intro a; fin_cases a <;> first | (show b % 64 + 1 ≤ 64; omega) | exact Nat.le_refl _
theorem inb_slot0 (b : ℕ) : ∀ a, ![b % 6, 0, 0, 0] a + S1x2x8x25088.size a ≤ S6x2x8x25088.size a := by
  intro a; fin_cases a <;> first | (show b % 6 + 1 ≤ 6; omega) | exact Nat.le_refl _
theorem inb_blk1 (b : ℕ) : ∀ a, ![b % 64, 0, 0, 0] a + S1x2x256x256.size a ≤ S64x2x256x256.size a := by
  intro a; fin_cases a <;> first | (show b % 64 + 1 ≤ 64; omega) | exact Nat.le_refl _
theorem inb_slot1 (b : ℕ) : ∀ a, ![b % 6, 0, 0, 0] a + S1x2x256x256.size a ≤ S6x2x256x256.size a := by
  intro a; fin_cases a <;> first | (show b % 6 + 1 ≤ 6; omega) | exact Nat.le_refl _

/-- The part of an array of blocks that block `b` is: layer 0, -/
abbrev kA0 (b : ℕ) : Finset S64x2x8x25088.Idx :=
  (Rect.unit (s := S64x2x8x25088) ![b % 64, 0, 0, 0] S1x2x8x25088.size (inb_blk0 b)).set
/-- its slots, -/
abbrev kS0 (b : ℕ) : Finset S6x2x8x25088.Idx :=
  (Rect.unit (s := S6x2x8x25088) ![b % 6, 0, 0, 0] S1x2x8x25088.size (inb_slot0 b)).set
/-- layer 1, -/
abbrev kA1 (b : ℕ) : Finset S64x2x256x256.Idx :=
  (Rect.unit (s := S64x2x256x256) ![b % 64, 0, 0, 0] S1x2x256x256.size (inb_blk1 b)).set
/-- its slots. -/
abbrev kS1 (b : ℕ) : Finset S6x2x256x256.Idx :=
  (Rect.unit (s := S6x2x256x256) ![b % 6, 0, 0, 0] S1x2x256x256.size (inb_slot1 b)).set

theorem kA0_mem (b : ℕ) (h : b < 64) (i : S64x2x8x25088.Idx) : i ∈ kA0 b ↔ (i 0).val = b :=
  mem_row (Nat.mod_eq_of_lt h) rfl (by intro a ha; fin_cases a <;> first | exact absurd rfl ha | exact ⟨rfl, rfl⟩) i
theorem kS0_mem (b : ℕ) (h : b < 6) (i : S6x2x8x25088.Idx) : i ∈ kS0 b ↔ (i 0).val = b :=
  mem_row (Nat.mod_eq_of_lt h) rfl (by intro a ha; fin_cases a <;> first | exact absurd rfl ha | exact ⟨rfl, rfl⟩) i
theorem kA1_mem (b : ℕ) (h : b < 64) (i : S64x2x256x256.Idx) : i ∈ kA1 b ↔ (i 0).val = b :=
  mem_row (Nat.mod_eq_of_lt h) rfl (by intro a ha; fin_cases a <;> first | exact absurd rfl ha | exact ⟨rfl, rfl⟩) i
theorem kS1_mem (b : ℕ) (h : b < 6) (i : S6x2x256x256.Idx) : i ∈ kS1 b ↔ (i 0).val = b :=
  mem_row (Nat.mod_eq_of_lt h) rfl (by intro a ha; fin_cases a <;> first | exact absurd rfl ha | exact ⟨rfl, rfl⟩) i

/-- A squeezed slice is held as the part it selects. -/
theorem own_part (c : Dev nD) {sp : Space} {s B : Shape} {e : EltTy} (M : Memref sig .tc sp s e) (off size : Fin s.rank → ℕ)
    (inb : ∀ a, off a + size a ≤ s.size a) (hq) (hs : Shape.Squeezes (Rect.unit (s := s) off size inb).shape B) (f : CT F c M) :
    own c ((M.slice (Rect.unit (s := s) off size inb) hq).squeeze B hs) f
      = (M.view.loc (c : Thread nD τ) ↦[(Rect.unit (s := s) off size inb).set.map M.view.emb]{fullShare} f : sProp (MM F)) := by
  unfold own
  rw [show ((M.slice (Rect.unit (s := s) off size inb) hq).squeeze B hs).view.set = (Rect.unit (s := s) off size inb).set.map M.view.emb from
    (View.set_reshape (v := (M.slice (Rect.unit (s := s) off size inb) hq).view) hs.numel_eq).trans (View.set_slice _ _)]

section Whole

variable (c : Dev nD)

theorem own_A0 (M : Memref sig .tc .hbm S64x2x8x25088 .f32) (f : CT F c M) :
    own c M f = bigSep (Finset.Ico 0 64) fun b => own c (blkF0 M b) f :=
  own_parts c M 64 (fun b f => own c (blkF0 M b) f) kA0 (fun b f => own_part c M _ _ _ _ squeezes_S1x2x8x25088_S2x8x25088 f) 0 rfl kA0_mem f
theorem A0_own (M : Memref sig .tc .hbm S64x2x8x25088 .f32) (f₀ : CT F c M) :
    bigSep (Finset.Ico 0 64) (fun b => iprop(∃ f : CT F c M, own c (blkF0 M b) f)) ⊢ iprop(∃ f : CT F c M, own c M f) :=
  parts_own c M 64 (fun b f => own c (blkF0 M b) f) kA0 (fun b f => own_part c M _ _ _ _ squeezes_S1x2x8x25088_S2x8x25088 f) 0 rfl kA0_mem f₀

theorem own_S0 (M : Memref sig .tc .vmem S6x2x8x25088 .f32) (f : CT F c M) :
    own c M f = bigSep (Finset.Ico 0 6) fun b => own c (slotF0 M b) f :=
  own_parts c M 6 (fun b f => own c (slotF0 M b) f) kS0 (fun b f => own_part c M _ _ _ _ squeezes_S1x2x8x25088_S2x8x25088 f) 0 rfl kS0_mem f
theorem S0_own (M : Memref sig .tc .vmem S6x2x8x25088 .f32) (f₀ : CT F c M) :
    bigSep (Finset.Ico 0 6) (fun b => iprop(∃ f : CT F c M, own c (slotF0 M b) f)) ⊢ iprop(∃ f : CT F c M, own c M f) :=
  parts_own c M 6 (fun b f => own c (slotF0 M b) f) kS0 (fun b f => own_part c M _ _ _ _ squeezes_S1x2x8x25088_S2x8x25088 f) 0 rfl kS0_mem f₀

theorem own_A1 (M : Memref sig .tc .hbm S64x2x256x256 .f32) (f : CT F c M) :
    own c M f = bigSep (Finset.Ico 0 64) fun b => own c (blkF1 M b) f :=
  own_parts c M 64 (fun b f => own c (blkF1 M b) f) kA1 (fun b f => own_part c M _ _ _ _ squeezes_S1x2x256x256_S2x256x256 f) 0 rfl kA1_mem f
theorem A1_own (M : Memref sig .tc .hbm S64x2x256x256 .f32) (f₀ : CT F c M) :
    bigSep (Finset.Ico 0 64) (fun b => iprop(∃ f : CT F c M, own c (blkF1 M b) f)) ⊢ iprop(∃ f : CT F c M, own c M f) :=
  parts_own c M 64 (fun b f => own c (blkF1 M b) f) kA1 (fun b f => own_part c M _ _ _ _ squeezes_S1x2x256x256_S2x256x256 f) 0 rfl kA1_mem f₀

theorem own_S1 (M : Memref sig .tc .vmem S6x2x256x256 .f32) (f : CT F c M) :
    own c M f = bigSep (Finset.Ico 0 6) fun b => own c (slotF1 M b) f :=
  own_parts c M 6 (fun b f => own c (slotF1 M b) f) kS1 (fun b f => own_part c M _ _ _ _ squeezes_S1x2x256x256_S2x256x256 f) 0 rfl kS1_mem f
theorem S1_own (M : Memref sig .tc .vmem S6x2x256x256 .f32) (f₀ : CT F c M) :
    bigSep (Finset.Ico 0 6) (fun b => iprop(∃ f : CT F c M, own c (slotF1 M b) f)) ⊢ iprop(∃ f : CT F c M, own c M f) :=
  parts_own c M 6 (fun b f => own c (slotF1 M b) f) kS1 (fun b f => own_part c M _ _ _ _ squeezes_S1x2x256x256_S2x256x256 f) 0 rfl kS1_mem f₀

/-- From contents known to contents whatever, part by part. -/
theorem forget_parts (n : ℕ) {X : Type} (P : ℕ → X → sProp (MM F)) (f : X) :
    bigSep (Finset.Ico 0 n) (fun b => P b f) ⊢ bigSep (Finset.Ico 0 n) (fun b => iprop(∃ f, P b f)) :=
  bigSep_mono fun b _ => show (P b f : sProp (MM F)) ⊢ iprop(∃ f, P b f) by iintro H; iexists f; iexact H

theorem rd0_begin (A : CT F c aA) :
    iprop(cells c cc0_scratch17 ∗ (∃ f : CT F c sI, own c sI f) ∗ own c aA A) ⊢ rd0 c A 0 0 := by
  refine BIBase.Entails.trans ?_ (rd_begin c (cellF cc0_scratch17) _ (slotF0 sI) (blkF0 aA) fun _ => A)
  rw [own_A0 c aA A]
  iintro ⟨H1, ⟨%f, H2⟩, H3⟩
  isplitl [H1]; · iexact H1
  isplitl [H2]
  · iapply (forget_parts 6 (fun b f => own c (slotF0 sI b) f) f)
    iapply (Entails.of_eq (own_S0 c sI f)) $$ H2
  iexact H3
theorem rd0_end (A : CT F c aA) :
    rd0 c A 64 64 ⊢ iprop(cells c cc0_scratch17 ∗ (∃ f : CT F c sI, own c sI f) ∗ own c aA A) := by
  refine BIBase.Entails.trans (ring_done rfl rfl rfl rfl rfl rfl) ?_
  rw [slots_eq, own_A0 c aA A]
  iintro ⟨⟨H1, H2⟩, H3⟩
  isplitl [H1]; · iexact H1
  isplitl [H2]
  · iapply (S0_own c sI (fun _ => FloatOps.ofBits .f32 0)) $$ H2
  iexact H3
theorem wr0_begin (G : CT F c aO) :
    iprop(cells c cc0_scratch18 ∗ (∃ f : CT F c sO, own c sO f) ∗ (∃ g : CT F c aO, own c aO g)) ⊢ wr0 c G 0 0 := by
  refine BIBase.Entails.trans ?_ (wr_begin c (cellF cc0_scratch18) _ (slotF0 sO) (blkF0 aO) fun _ => G)
  iintro ⟨H1, ⟨%f, H2⟩, ⟨%g, H3⟩⟩
  isplitl [H1]; · iexact H1
  isplitl [H2]
  · iapply (forget_parts 6 (fun b f => own c (slotF0 sO b) f) f)
    iapply (Entails.of_eq (own_S0 c sO f)) $$ H2
  iapply (forget_parts 64 (fun b f => own c (blkF0 aO b) f) g)
  iapply (Entails.of_eq (own_A0 c aO g)) $$ H3
theorem wr0_end (G : CT F c aO) :
    wr0 c G 64 64 ⊢ iprop(cells c cc0_scratch18 ∗ (∃ f : CT F c sO, own c sO f) ∗ own c aO G) := by
  refine BIBase.Entails.trans (ring_done rfl rfl rfl rfl rfl rfl) ?_
  rw [slots_eq, own_A0 c aO G]
  iintro ⟨⟨H1, H2⟩, H3⟩
  isplitl [H1]; · iexact H1
  isplitl [H2]
  · iapply (S0_own c sO (fun _ => FloatOps.ofBits .f32 0)) $$ H2
  iexact H3

theorem rd1_begin (A : CT F c aA1) :
    iprop(cells c cc0_scratch19 ∗ (∃ f : CT F c sI1, own c sI1 f) ∗ own c aA1 A) ⊢ rd1 c A 0 0 := by
  refine BIBase.Entails.trans ?_ (rd_begin c (cellF cc0_scratch19) _ (slotF1 sI1) (blkF1 aA1) fun _ => A)
  rw [own_A1 c aA1 A]
  iintro ⟨H1, ⟨%f, H2⟩, H3⟩
  isplitl [H1]; · iexact H1
  isplitl [H2]
  · iapply (forget_parts 6 (fun b f => own c (slotF1 sI1 b) f) f)
    iapply (Entails.of_eq (own_S1 c sI1 f)) $$ H2
  iexact H3
theorem rd1_end (A : CT F c aA1) :
    rd1 c A 64 64 ⊢ iprop(cells c cc0_scratch19 ∗ (∃ f : CT F c sI1, own c sI1 f) ∗ own c aA1 A) := by
  refine BIBase.Entails.trans (ring_done rfl rfl rfl rfl rfl rfl) ?_
  rw [slots_eq, own_A1 c aA1 A]
  iintro ⟨⟨H1, H2⟩, H3⟩
  isplitl [H1]; · iexact H1
  isplitl [H2]
  · iapply (S1_own c sI1 (fun _ => FloatOps.ofBits .f32 0)) $$ H2
  iexact H3
theorem wr1_begin (G : CT F c aO1) :
    iprop(cells c cc0_scratch20 ∗ (∃ f : CT F c sO1, own c sO1 f) ∗ (∃ g : CT F c aO1, own c aO1 g)) ⊢ wr1 c G 0 0 := by
  refine BIBase.Entails.trans ?_ (wr_begin c (cellF cc0_scratch20) _ (slotF1 sO1) (blkF1 aO1) fun _ => G)
  iintro ⟨H1, ⟨%f, H2⟩, ⟨%g, H3⟩⟩
  isplitl [H1]; · iexact H1
  isplitl [H2]
  · iapply (forget_parts 6 (fun b f => own c (slotF1 sO1 b) f) f)
    iapply (Entails.of_eq (own_S1 c sO1 f)) $$ H2
  iapply (forget_parts 64 (fun b f => own c (blkF1 aO1 b) f) g)
  iapply (Entails.of_eq (own_A1 c aO1 g)) $$ H3
theorem wr1_end (G : CT F c aO1) :
    wr1 c G 64 64 ⊢ iprop(cells c cc0_scratch20 ∗ (∃ f : CT F c sO1, own c sO1 f) ∗ own c aO1 G) := by
  refine BIBase.Entails.trans (ring_done rfl rfl rfl rfl rfl rfl) ?_
  rw [slots_eq, own_A1 c aO1 G]
  iintro ⟨⟨H1, H2⟩, H3⟩
  isplitl [H1]; · iexact H1
  isplitl [H2]
  · iapply (S1_own c sO1 (fun _ => FloatOps.ofBits .f32 0)) $$ H2
  iexact H3

end Whole

end Cert.KernelIdeal.Hand
end
-- ==== Proof.Results.lean ====
/- What the kernel leaves in its results, element by element -/
module

public import Idealize.ShloMosaic.Lib.Pointwise.Reshape
public import Idealize.ShloMosaic.Lib.Pipeline.Value
public import proofs.«01_k».proof.Proof.Body

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic

variable {F : FTy → Type} [FloatOps F]

/-- The channel of row `r` of block `b`: each batch entry is eight blocks of two channels. -/
def chan (b : Fin 64) (r : Fin 2) : Fin 16 := ⟨2 * (b.val % 8) + r.val, by omega⟩

/-- Layer 0's result, blocked as the kernel keeps it: each block plus the tile's rows of its channels. -/
def res0 (A : Vec F S64x2x8x25088 .f32) (T : Vec F S16x8x25088 .f32) : Vec F S64x2x8x25088 .f32 :=
  fun i => FloatOps.addf (A i) (T (ix3 (chan (i 0) (i 1)) (i 2) (i 3)))

/-- Layer 1's result: each block plus the second column's entry of its channels. -/
def res1 (A : Vec F S64x2x256x256 .f32) (E : Vec F S16x1x3 .f32) : Vec F S64x2x256x256 .f32 :=
  fun i => FloatOps.addf (A i) (E (ix3 (chan (i 0) (i 1)) (0 : Fin 1) (1 : Fin 3)))

/-- A squeezed block's element, in its array: the block's own coordinates behind the block's number, moved by the offset. -/
theorem at_blk0 (M : Memref sig .tc .hbm S64x2x8x25088 .f32) (o : Fin 4 → ℕ) (h) (x : S2x8x25088.Idx)
    (f : M.view.ty.Contents (Elt F)) :
    (blk0 M o h).view.read (Elt F) f x
      = M.view.read (Elt F) f ((Rect.unit (s := S64x2x8x25088) o S1x2x8x25088.size h).toLoadRect.idx (Fin.cons ⟨0, Nat.one_pos⟩ x)) := by
  rw [← Shape.reshapeEquiv_cons_one (n := 3) (d := ![2, 8, 25088]) squeezes_S1x2x8x25088_S2x8x25088.numel_eq x]
  rfl

theorem at_blk1 (M : Memref sig .tc .hbm S64x2x256x256 .f32) (o : Fin 4 → ℕ) (h) (x : S2x256x256.Idx)
    (f : M.view.ty.Contents (Elt F)) :
    (blk1 M o h).view.read (Elt F) f x
      = M.view.read (Elt F) f ((Rect.unit (s := S64x2x256x256) o S1x2x256x256.size h).toLoadRect.idx (Fin.cons ⟨0, Nat.one_pos⟩ x)) := by
  rw [← Shape.reshapeEquiv_cons_one (n := 3) (d := ![2, 256, 256]) squeezes_S1x2x256x256_S2x256x256.numel_eq x]
  rfl

theorem res0_blk (c : Dev nD) (A : CT F c aA) (T : CT F c tile) (k : Fin k0_t1_loop.trips) :
    (blk0 aO (k0_off3 k) (k0_off3_inb k)).view.read (Elt F) (res0 A T : CT F c aO) = val0' c k A T := by
  funext x
  rw [at_blk0]
  show FloatOps.addf _ _ = FloatOps.addf _ _
  have hA : (blk0 aA (k0_off3 k) (k0_off3_inb k)).view.read (Elt F) A x = _ := at_blk0 aA _ (k0_off3_inb k) x A
  refine congrArg₂ FloatOps.addf hA.symm (congrArg T (funext fun a => Fin.ext ?_))
  have hk : k.val < 64 := k.isLt
  have e3 := k0_off3_eq k
  have e8 := k0_off8_eq k
  fin_cases a
  · show 2 * ((k0_off3 k 0 + 1 * 0) % 8) + (k0_off3 k 1 + 1 * (x 0).val) = k0_off8 k 0 + 1 * (x 0).val
    rw [e3, e8]
    show 2 * ((k.val + 1 * 0) % 8) + (0 + 1 * (x 0).val) = 2 * (k.val % 8) + 1 * (x 0).val
    omega
  · show k0_off3 k 2 + 1 * (x 1).val = k0_off8 k 1 + 1 * (x 1).val
    rw [e3, e8]; rfl
  · show k0_off3 k 3 + 1 * (x 2).val = k0_off8 k 2 + 1 * (x 2).val
    rw [e3, e8]; rfl

/-- Two channels' entries, spread over the block. -/
theorem spread_at (w : Vec F S2x1x1 .f32) (x : S2x256x256.Idx) : spread w x = w (ix3 (x 0) (0 : Fin 1) (0 : Fin 1)) := by
  refine (broadcastTo_apply _ _ x (ix3 (x 0) (0 : Fin 1) (0 : Fin 1)) (by intro a; fin_cases a <;> rfl)).trans ?_
  exact congrFun ((shapeCast_comp _ _ _).trans (shapeCast_id _ _)) _

theorem res1_blk (c : Dev nD) (A : CT F c aA1) (E : CT F c wet) (k : Fin k0_t2_loop.trips) :
    (blk1 aO1 (k0_off14 k) (k0_off14_inb k)).view.read (Elt F) (res1 A E : CT F c aO1) = val1' c k A E := by
  funext x
  rw [at_blk1]
  show FloatOps.addf _ _ = FloatOps.addf _ _
  have hA : (blk1 aA1 (k0_off14 k) (k0_off14_inb k)).view.read (Elt F) A x = _ := at_blk1 aA1 _ (k0_off14_inb k) x A
  refine congrArg₂ FloatOps.addf hA.symm (Eq.trans ?_ (spread_at _ x).symm)
  refine congrArg E (funext fun a => Fin.ext ?_)
  have e14 := k0_off14_eq k
  have e18 := k0_off18_eq k
  fin_cases a
  · show 2 * ((k0_off14 k 0 + 1 * 0) % 8) + (k0_off14 k 1 + 1 * (x 0).val) = k0_off18 k 0 + 1 * (x 0).val
    rw [e14, e18]
    show 2 * ((k.val + 1 * 0) % 8) + (0 + 1 * (x 0).val) = 2 * (k.val % 8) + 1 * (x 0).val
    omega
  · show 0 = k0_off18 k 1 + 1 * 0
    rw [e18]; rfl
  · show 1 = k0_off18 k 2 + 1 * 0
    rw [e18]; rfl

end Cert.KernelIdeal.Hand
end
-- ==== Proof.Held.lean ====
/- The launch: the region's buffers and counters in and out of the body's, and the run of the whole program -/
module

public import Idealize.ShloMosaic.Lib.Pipeline.FrameSuffixV
public import proofs.«01_k».proof.Proof.Split
public import proofs.«01_k».proof.Proof.Results

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation)

variable {F : FTy → Type} [FloatOps F]

/-- What every buffer of a core holds. -/
abbrev Mem (F : FTy → Type) (c : Dev nD) : Type := (b : Ref sig .tc) → Buf (Elt F) ((c : Thread nD τ).loc b)

/-! ## The region's holdings, buffer by buffer -/

/-- The 31 transfer counters. -/
abbrev osem0 : Fin 31 → SemLoc sig := fun j => SemLoc.dma j
theorem ownSemFacts0 : Pipeline.OwnSemFacts cfg0.spec osem0 := by decide

/-- What the transfers read, and the results they write. -/
def H0 : Finset (Ref sig .tc) := {main_v0, main_v1, main_arg2, main_v15, main_v16, main_v17, main_v3, main_v5, main_v10, main_v12, main_v14}
def R0 : Finset (Ref sig .tc) := {main_v18_0, main_v18_1, main_v18_2, main_v18_3, main_v18_4, main_v18_5}
theorem H0_sub : H0 ⊆ Pipeline.restRefs sig cfg0.spec := by decide
theorem R0_sub : R0 ⊆ Pipeline.restRefs sig cfg0.spec \ H0 := by decide

theorem own_whole (c : Dev nD) (b : Ref sig .tc) (f : Buf (Elt F) ((c : Thread nD τ).loc b)) :
    own c (Memref.whole b) f = (((c : Thread nD τ).loc b) ↦{fullShare} f : sProp (MM F)) :=
  congrArg (fun S => (((c : Thread nD τ).loc b) ↦[S]{fullShare} f : sProp (MM F))) (View.set_whole b)

/-- A buffer, whatever it holds. -/
def some (c : Dev nD) (b : Ref sig .tc) : sProp (MM F) :=
  iprop(∃ f : CT F c (Memref.whole b), own c (Memref.whole b) f)

theorem some_eq (c : Dev nD) (b : Ref sig .tc) : some (F := F) c b = iprop(∃ f, ((c : Thread nD τ).loc b) ↦{fullShare} f) :=
  congrArg BIBase.exists (funext fun f => own_whole c b f)

/-- The scratch buffers, whatever they hold, -/
abbrev scratch (c : Dev nD) : sProp (MM F) :=
  iprop(some c cc0_scratch0 ∗ some c cc0_scratch1 ∗ some c cc0_scratch2 ∗ some c cc0_scratch3 ∗ some c cc0_scratch4 ∗ some c cc0_scratch5 ∗ some c cc0_scratch6 ∗ some c cc0_scratch7 ∗ some c cc0_scratch8 ∗ some c cc0_scratch9 ∗ some c cc0_scratch10 ∗ some c cc0_scratch11 ∗ some c cc0_scratch12 ∗ some c cc0_scratch13 ∗ some c cc0_scratch14 ∗ some c cc0_scratch15 ∗ some c cc0_scratch16)
/-- the counters at rest, -/
abbrev counters (c : Dev nD) : sProp (MM F) :=
  iprop(semVal ((c : Thread nD τ), SemLoc.dma (sig := sig) 0) 0
    ∗ semVal ((c : Thread nD τ), SemLoc.dma (sig := sig) 1) 0
    ∗ semVal ((c : Thread nD τ), SemLoc.dma (sig := sig) 2) 0
    ∗ semVal ((c : Thread nD τ), SemLoc.dma (sig := sig) 3) 0
    ∗ semVal ((c : Thread nD τ), SemLoc.dma (sig := sig) 4) 0
    ∗ semVal ((c : Thread nD τ), SemLoc.dma (sig := sig) 5) 0
    ∗ semVal ((c : Thread nD τ), SemLoc.dma (sig := sig) 6) 0
    ∗ semVal ((c : Thread nD τ), SemLoc.dma (sig := sig) 7) 0
    ∗ semVal ((c : Thread nD τ), SemLoc.dma (sig := sig) 8) 0
    ∗ semVal ((c : Thread nD τ), SemLoc.dma (sig := sig) 9) 0
    ∗ semVal ((c : Thread nD τ), SemLoc.dma (sig := sig) 10) 0
    ∗ semVal ((c : Thread nD τ), SemLoc.dma (sig := sig) 11) 0
    ∗ semVal ((c : Thread nD τ), SemLoc.dma (sig := sig) 12) 0
    ∗ semVal ((c : Thread nD τ), SemLoc.dma (sig := sig) 13) 0
    ∗ semVal ((c : Thread nD τ), SemLoc.dma (sig := sig) 14) 0
    ∗ semVal ((c : Thread nD τ), SemLoc.dma (sig := sig) 15) 0
    ∗ semVal ((c : Thread nD τ), SemLoc.dma (sig := sig) 16) 0
    ∗ semVal ((c : Thread nD τ), SemLoc.dma (sig := sig) 17) 0
    ∗ semVal ((c : Thread nD τ), SemLoc.dma (sig := sig) 18) 0
    ∗ semVal ((c : Thread nD τ), SemLoc.dma (sig := sig) 19) 0
    ∗ semVal ((c : Thread nD τ), SemLoc.dma (sig := sig) 20) 0
    ∗ semVal ((c : Thread nD τ), SemLoc.dma (sig := sig) 21) 0
    ∗ semVal ((c : Thread nD τ), SemLoc.dma (sig := sig) 22) 0
    ∗ semVal ((c : Thread nD τ), SemLoc.dma (sig := sig) 23) 0
    ∗ semVal ((c : Thread nD τ), SemLoc.dma (sig := sig) 24) 0
    ∗ semVal ((c : Thread nD τ), SemLoc.dma (sig := sig) 25) 0
    ∗ semVal ((c : Thread nD τ), SemLoc.dma (sig := sig) 26) 0
    ∗ semVal ((c : Thread nD τ), SemLoc.dma (sig := sig) 27) 0
    ∗ semVal ((c : Thread nD τ), SemLoc.dma (sig := sig) 28) 0
    ∗ semVal ((c : Thread nD τ), SemLoc.dma (sig := sig) 29) 0
    ∗ semVal ((c : Thread nD τ), SemLoc.dma (sig := sig) 30) 0)
/-- the arrays read, -/
abbrev reads (c : Dev nD) (V : Mem F c) : sProp (MM F) :=
  iprop(own c (Memref.whole main_v0) (V main_v0)
    ∗ own c (Memref.whole main_v1) (V main_v1)
    ∗ own c (Memref.whole main_arg2) (V main_arg2)
    ∗ own c (Memref.whole main_v15) (V main_v15)
    ∗ own c (Memref.whole main_v16) (V main_v16)
    ∗ own c (Memref.whole main_v17) (V main_v17)
    ∗ own c (Memref.whole main_v3) (V main_v3)
    ∗ own c (Memref.whole main_v5) (V main_v5)
    ∗ own c (Memref.whole main_v10) (V main_v10)
    ∗ own c (Memref.whole main_v12) (V main_v12)
    ∗ own c (Memref.whole main_v14) (V main_v14))
/-- and the arrays written. -/
abbrev writes (c : Dev nD) (G : Mem F c) : sProp (MM F) :=
  iprop(own c (Memref.whole main_v18_0) (G main_v18_0)
    ∗ own c (Memref.whole main_v18_1) (G main_v18_1)
    ∗ own c (Memref.whole main_v18_2) (G main_v18_2)
    ∗ own c (Memref.whole main_v18_3) (G main_v18_3)
    ∗ own c (Memref.whole main_v18_4) (G main_v18_4)
    ∗ own c (Memref.whole main_v18_5) (G main_v18_5))

theorem scratch_eq (c : Dev nD) : (Pipeline.scopedRest (Ix := Unit) (Name := ℕ) (U := Pipeline.UD sig nD τ) (Lvl := ℕ) (Val := Elt F)
    cfg0.spec c : sProp (MM F)) = scratch c := by
  rw [scopedRest0_eq]
  unfold scratch
  rw [some_eq c cc0_scratch0, some_eq c cc0_scratch1, some_eq c cc0_scratch2, some_eq c cc0_scratch3, some_eq c cc0_scratch4, some_eq c cc0_scratch5, some_eq c cc0_scratch6, some_eq c cc0_scratch7, some_eq c cc0_scratch8, some_eq c cc0_scratch9, some_eq c cc0_scratch10, some_eq c cc0_scratch11, some_eq c cc0_scratch12, some_eq c cc0_scratch13, some_eq c cc0_scratch14, some_eq c cc0_scratch15, some_eq c cc0_scratch16]

theorem counters_eq (c : Dev nD) : (Pipeline.ownSems0 (Ix := Unit) (Name := ℕ) (U := Pipeline.UD sig nD τ) (Lvl := ℕ) (Val := Elt F)
    (τ := τ) osem0 c : sProp (MM F)) = counters c := by
  rw [Pipeline.ownSems0_eq_of_list c osem0 [0, 1, 2, 3, 4, 5, 6, 7, 8, 9, 10, 11, 12, 13, 14, 15, 16, 17, 18, 19, 20, 21, 22, 23, 24, 25, 26, 27, 28, 29, 30] (by decide) (by decide)]
  rfl

theorem reads_eq (c : Dev nD) (V : Mem F c) :
    (bigSep H0 (fun b => ((c : Thread nD τ).loc b) ↦{fullShare} V b) : sProp (MM F)) = reads c V := by
  rw [BI.bigSep_eq_bigSepL_of_eq [main_v0, main_v1, main_arg2, main_v15, main_v16, main_v17, main_v3, main_v5, main_v10, main_v12, main_v14] (by decide) (by decide)]
  unfold reads
  rw [own_whole c main_v0 (V main_v0), own_whole c main_v1 (V main_v1), own_whole c main_arg2 (V main_arg2), own_whole c main_v15 (V main_v15), own_whole c main_v16 (V main_v16), own_whole c main_v17 (V main_v17), own_whole c main_v3 (V main_v3), own_whole c main_v5 (V main_v5), own_whole c main_v10 (V main_v10), own_whole c main_v12 (V main_v12), own_whole c main_v14 (V main_v14)]
  rfl

theorem writes_eq (c : Dev nD) (G : Mem F c) :
    (bigSep R0 (fun b => ((c : Thread nD τ).loc b) ↦{fullShare} G b) : sProp (MM F)) = writes c G := by
  rw [BI.bigSep_eq_bigSepL_of_eq [main_v18_0, main_v18_1, main_v18_2, main_v18_3, main_v18_4, main_v18_5] (by decide) (by decide)]
  unfold writes
  rw [own_whole c main_v18_0 (G main_v18_0), own_whole c main_v18_1 (G main_v18_1), own_whole c main_v18_2 (G main_v18_2), own_whole c main_v18_3 (G main_v18_3), own_whole c main_v18_4 (G main_v18_4), own_whole c main_v18_5 (G main_v18_5)]
  rfl

theorem held_eq (V G : (c : Dev nD) → Mem F c) (c : Dev nD) :
    (Pipeline.ΦDRV osem0 cfg0.spec H0 R0 V G c : sProp (MM F)) = iprop(scratch c ∗ counters c ∗ reads c (V c) ∗ writes c (G c)) := by
  unfold Pipeline.ΦDRV
  rw [scratch_eq, counters_eq, reads_eq, writes_eq]

end Cert.KernelIdeal.Hand
end
-- ==== Proof.Region.lean ====
/- The region: what the launch hands the body, and what the body hands back -/
module

public import proofs.«01_k».proof.Proof.Body
public import proofs.«01_k».proof.Proof.Held

@[expose] public section

set_option maxRecDepth 16384
set_option maxHeartbeats 2000000

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-! ## The counters, ring by ring -/

theorem cells_17 (c : Dev nD) : cells (F := F) c cc0_scratch17 = iprop(semVal ((c : Thread nD τ), SemLoc.dma (sig := sig) 0) 0 ∗ semVal ((c : Thread nD τ), SemLoc.dma (sig := sig) 1) 0 ∗ semVal ((c : Thread nD τ), SemLoc.dma (sig := sig) 2) 0 ∗ semVal ((c : Thread nD τ), SemLoc.dma (sig := sig) 3) 0 ∗ semVal ((c : Thread nD τ), SemLoc.dma (sig := sig) 4) 0 ∗ semVal ((c : Thread nD τ), SemLoc.dma (sig := sig) 5) 0) :=
  (bigSep_Ico_six (F := F) 0 _).trans rfl

theorem cells_18 (c : Dev nD) : cells (F := F) c cc0_scratch18 = iprop(semVal ((c : Thread nD τ), SemLoc.dma (sig := sig) 6) 0 ∗ semVal ((c : Thread nD τ), SemLoc.dma (sig := sig) 7) 0 ∗ semVal ((c : Thread nD τ), SemLoc.dma (sig := sig) 8) 0 ∗ semVal ((c : Thread nD τ), SemLoc.dma (sig := sig) 9) 0 ∗ semVal ((c : Thread nD τ), SemLoc.dma (sig := sig) 10) 0 ∗ semVal ((c : Thread nD τ), SemLoc.dma (sig := sig) 11) 0) :=
  (bigSep_Ico_six (F := F) 0 _).trans rfl

theorem cells_19 (c : Dev nD) : cells (F := F) c cc0_scratch19 = iprop(semVal ((c : Thread nD τ), SemLoc.dma (sig := sig) 12) 0 ∗ semVal ((c : Thread nD τ), SemLoc.dma (sig := sig) 13) 0 ∗ semVal ((c : Thread nD τ), SemLoc.dma (sig := sig) 14) 0 ∗ semVal ((c : Thread nD τ), SemLoc.dma (sig := sig) 15) 0 ∗ semVal ((c : Thread nD τ), SemLoc.dma (sig := sig) 16) 0 ∗ semVal ((c : Thread nD τ), SemLoc.dma (sig := sig) 17) 0) :=
  (bigSep_Ico_six (F := F) 0 _).trans rfl

theorem cells_20 (c : Dev nD) : cells (F := F) c cc0_scratch20 = iprop(semVal ((c : Thread nD τ), SemLoc.dma (sig := sig) 18) 0 ∗ semVal ((c : Thread nD τ), SemLoc.dma (sig := sig) 19) 0 ∗ semVal ((c : Thread nD τ), SemLoc.dma (sig := sig) 20) 0 ∗ semVal ((c : Thread nD τ), SemLoc.dma (sig := sig) 21) 0 ∗ semVal ((c : Thread nD τ), SemLoc.dma (sig := sig) 22) 0 ∗ semVal ((c : Thread nD τ), SemLoc.dma (sig := sig) 23) 0) :=
  (bigSep_Ico_six (F := F) 0 _).trans rfl

/-- The counters of the four rings, and the seven of the single transfers. -/
abbrev rings (c : Dev nD) : sProp (MM F) :=
  iprop(cells c cc0_scratch17 ∗ cells c cc0_scratch18 ∗ cells c cc0_scratch19 ∗ cells c cc0_scratch20
    ∗ semVal ((c : Thread nD τ), SemLoc.dma (SemArray.sem cc0_scratch21)) 0
    ∗ semVal ((c : Thread nD τ), SemLoc.dma (SemArray.sem cc0_scratch22)) 0
    ∗ semVal ((c : Thread nD τ), SemLoc.dma (SemArray.sem cc0_scratch23)) 0
    ∗ semVal ((c : Thread nD τ), SemLoc.dma (SemArray.sem cc0_scratch24)) 0
    ∗ semVal ((c : Thread nD τ), SemLoc.dma (SemArray.sem cc0_scratch25)) 0
    ∗ semVal ((c : Thread nD τ), SemLoc.dma (SemArray.sem cc0_scratch26)) 0
    ∗ semVal ((c : Thread nD τ), SemLoc.dma (SemArray.sem cc0_scratch27)) 0)

theorem sep_regroup (P Q R : sProp (MM F)) : iprop((P ∗ Q) ∗ R) = iprop(P ∗ Q ∗ R) := equiv_iff.mp ⟨BI.sep_assoc, BI.sep_assoc'⟩

theorem counters_rings (c : Dev nD) : counters (F := F) c = rings c := by
  unfold rings counters
  rw [cells_17, cells_18, cells_19, cells_20]
  simp only [sep_regroup]
  rfl

/-! ## The results' contents -/

/-- The input table with the first layer's channel numbers added, spread over the kernel's tile. -/
def tileOf (IT : Vec F S16x8x25088 .f32) (E : Vec F S16x1x3 .f32) : Vec F S16x8x25088 .f32 :=
  k0_pay4 IT (k0_pay3 (col ![0, 0, 0] inb_S16x1x3_S16x1x1_0_0_0 E))

/-- The contents of the six results, in terms of what the region finds. -/
structure Outs (c : Dev nD) (V G : Mem F c) : Prop where
  out0 : (G main_v18_0 : Vec F S64x2x8x25088 .f32) = res0 (V main_v0) (tileOf (V main_v10) (V main_v3))
  out1 : (G main_v18_1 : Vec F S64x2x256x256 .f32) = res1 (V main_v1) (V main_v3)
  out2 : (G main_v18_2 : Vec F S8x16x10x256 .f32)
    = k0_pay6 (k0_pay5 (col ![0, 0, 2] inb_S16x1x3_S16x1x1_0_0_2 (V main_v3))) (V main_arg2) (V main_v14)
  out3 : (G main_v18_3 : Vec F S8x16x1x256 .f32) = k0_pay7 (V main_v15) (col ![0, 0, 0] inb_S16x1x3_S16x1x1_0_0_0 (V main_v5))
  out4 : (G main_v18_4 : Vec F S8x16x1x256 .f32) = k0_pay9 (k0_pay8 (V main_v16) (col ![0, 0, 1] inb_S16x1x3_S16x1x1_0_0_1 (V main_v5)))
  out5 : (G main_v18_5 : Vec F S8x16x1x10 .f32)
    = k0_pay10 (V main_v17) (col ![0, 0, 2] inb_S16x1x3_S16x1x1_0_0_2 (V main_v5)) (V main_v12)

/-! ## The body between the launch's holdings -/

theorem region_run (c : Dev nD) (V G : Mem F c) (h : Outs c V G) (t : Fin cfg0.N) :
    iprop(scratch c ∗ rings c ∗ reads c V ∗ writes c V ∗ ∃ W, owes (c : Thread nD τ) 0 W)
    ⊢ wp frame (wpE (defs₀ (F := F)) Variants.none c none) Set.univ (bodyAt0 t) fun _ =>
      iprop(scratch c ∗ rings c ∗ reads c V ∗ writes c G ∗ ∃ W, owes (c : Thread nD τ) 0 W) := by
  refine BIBase.Entails.trans ?_ ((body_run c (V main_v0) (G main_v18_0) (V main_v1) (G main_v18_1) (V main_arg2) (V main_v15) (V main_v16)
    (V main_v17) (V main_v3) (V main_v5) (V main_v10) (V main_v12) (V main_v14) (V main_v3) rfl
    (tileOf (V main_v10) (V main_v3)) rfl ?_ ?_ (G main_v18_2) h.out2 (G main_v18_3) h.out3 (G main_v18_4) h.out4 (G main_v18_5) h.out5
    trivial trivial).trans (wp_mono _ _ _ fun _ => ?_))
  · unfold scratch some
    iintro ⟨⟨HS0, HS1, HS2, HS3, HS4, HS5, HS6, HS7, HS8, HS9, HS10, HS11, HS12, HS13, HS14, HS15, HS16⟩, ⟨HC0, HC1, HC2, HC3, HV0, HV1, HV2, HV3, HV4, HV5, HV6⟩, ⟨HA0, HA1, HA2, HA3, HA4, HA5, HA6, HA7, HA8, HA9, HA10⟩, ⟨HO0, HO1, HO2, HO3, HO4, HO5⟩, HW⟩
    isplitl [HC0 HS0 HA0]; · iapply (rd0_begin c (V main_v0)); isplitl [HC0]; (· iexact HC0); isplitl [HS0]; (· iexact HS0); iexact HA0
    isplitl [HC1 HS1 HO0]; · iapply (wr0_begin c (G main_v18_0)); isplitl [HC1]; (· iexact HC1); isplitl [HS1]; (· iexact HS1); iexists _; iexact HO0
    isplitl [HC2 HS2 HA1]; · iapply (rd1_begin c (V main_v1)); isplitl [HC2]; (· iexact HC2); isplitl [HS2]; (· iexact HS2); iexact HA1
    isplitl [HC3 HS3 HO1]; · iapply (wr1_begin c (G main_v18_1)); isplitl [HC3]; (· iexact HC3); isplitl [HS3]; (· iexact HS3); iexists _; iexact HO1
    isplitl [HA2]; · iexact HA2
    isplitl [HA3]; · iexact HA3
    isplitl [HA4]; · iexact HA4
    isplitl [HA5]; · iexact HA5
    isplitl [HA6]; · iexact HA6
    isplitl [HA7]; · iexact HA7
    isplitl [HA8]; · iexact HA8
    isplitl [HA9]; · iexact HA9
    isplitl [HA10]; · iexact HA10
    isplitl [HO2]; · iexists _; iexact HO2
    isplitl [HO3]; · iexists _; iexact HO3
    isplitl [HO4]; · iexists _; iexact HO4
    isplitl [HO5]; · iexists _; iexact HO5
    isplitl [HS4]; · iexact HS4
    isplitl [HS5]; · iexact HS5
    isplitl [HS6]; · iexact HS6
    isplitl [HS7]; · iexact HS7
    isplitl [HS8]; · iexact HS8
    isplitl [HS9]; · iexact HS9
    isplitl [HS10]; · iexact HS10
    isplitl [HS11]; · iexact HS11
    isplitl [HS12]; · iexact HS12
    isplitl [HS13]; · iexact HS13
    isplitl [HS14]; · iexact HS14
    isplitl [HS15]; · iexact HS15
    isplitl [HS16]; · iexact HS16
    isplitl [HV0]; · iexact HV0
    isplitl [HV1]; · iexact HV1
    isplitl [HV2]; · iexact HV2
    isplitl [HV3]; · iexact HV3
    isplitl [HV4]; · iexact HV4
    isplitl [HV5]; · iexact HV5
    isplitl [HV6]; · iexact HV6
    iexact HW
  · intro k; rw [h.out0]; exact res0_blk c _ _ k
  · intro k; rw [h.out1]; exact res1_blk c _ _ k
  · unfold scratch some
    iintro ⟨HR0, HQ0, HR1, HQ1, HA2, HA3, HA4, HA5, HA6, HA7, HA8, HA9, HA10, HO2, HO3, HO4, HO5, HS4, HS5, HS6, HS7, HS8, HS9, HS10, HS11, HS12, HS13, HS14, HS15, HS16, HV0, HV1, HV2, HV3, HV4, HV5, HV6, HW⟩
    ihave ⟨HC0, HS0, HA0⟩ := (rd0_end c (V main_v0)) $$ HR0
    ihave ⟨HC1, HS1, HO0⟩ := (wr0_end c (G main_v18_0)) $$ HQ0
    ihave ⟨HC2, HS2, HA1⟩ := (rd1_end c (V main_v1)) $$ HR1
    ihave ⟨HC3, HS3, HO1⟩ := (wr1_end c (G main_v18_1)) $$ HQ1
    isplitl [HS0 HS1 HS2 HS3 HS4 HS5 HS6 HS7 HS8 HS9 HS10 HS11 HS12 HS13 HS14 HS15 HS16]
    · isplitl [HS0]; · iexact HS0
      isplitl [HS1]; · iexact HS1
      isplitl [HS2]; · iexact HS2
      isplitl [HS3]; · iexact HS3
      isplitl [HS4]; · iexact HS4
      isplitl [HS5]; · iexact HS5
      isplitl [HS6]; · iexact HS6
      isplitl [HS7]; · iexact HS7
      isplitl [HS8]; · iexact HS8
      isplitl [HS9]; · iexact HS9
      isplitl [HS10]; · iexact HS10
      isplitl [HS11]; · iexact HS11
      isplitl [HS12]; · iexact HS12
      isplitl [HS13]; · iexact HS13
      isplitl [HS14]; · iexact HS14
      isplitl [HS15]; · iexact HS15
      iexact HS16
    isplitl [HC0 HC1 HC2 HC3 HV0 HV1 HV2 HV3 HV4 HV5 HV6]
    · isplitl [HC0]; · iexact HC0
      isplitl [HC1]; · iexact HC1
      isplitl [HC2]; · iexact HC2
      isplitl [HC3]; · iexact HC3
      isplitl [HV0]; · iexact HV0
      isplitl [HV1]; · iexact HV1
      isplitl [HV2]; · iexact HV2
      isplitl [HV3]; · iexact HV3
      isplitl [HV4]; · iexact HV4
      isplitl [HV5]; · iexact HV5
      iexact HV6
    isplitl [HA0 HA1 HA2 HA3 HA4 HA5 HA6 HA7 HA8 HA9 HA10]
    · isplitl [HA0]; · iexact HA0
      isplitl [HA1]; · iexact HA1
      isplitl [HA2]; · iexact HA2
      isplitl [HA3]; · iexact HA3
      isplitl [HA4]; · iexact HA4
      isplitl [HA5]; · iexact HA5
      isplitl [HA6]; · iexact HA6
      isplitl [HA7]; · iexact HA7
      isplitl [HA8]; · iexact HA8
      isplitl [HA9]; · iexact HA9
      iexact HA10
    isplitl [HO0 HO1 HO2 HO3 HO4 HO5]
    · isplitl [HO0]; · iexact HO0
      isplitl [HO1]; · iexact HO1
      isplitl [HO2]; · iexact HO2
      isplitl [HO3]; · iexact HO3
      isplitl [HO4]; · iexact HO4
      iexact HO5
    iexact HW

end Cert.KernelIdeal.Hand
end
-- ==== Proof.Launched.lean ====
/- The run of the whole program: the host lines, the region, the host lines after it -/
module

public import proofs.«01_k».proof.Proof.Region
public import proofs.«01_k».proof.Proof.Gen.KernelIdeal.Frame

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)

variable {F : FTy → Type} [FloatOps F]
variable (m : (ℓ : Loc nD τ sig) → Buf (Elt F) ℓ) (ρ : Dev nD → PrngReg)

/-- What the buffers hold once the region is done: the results at their contents, the rest as found. -/
def outs (c : Dev nD) (V : Mem F c) : Mem F c :=
  Function.update (Function.update (Function.update (Function.update (Function.update (Function.update V
    main_v18_0 (res0 (V main_v0) (tileOf (V main_v10) (V main_v3))))
    main_v18_1 (res1 (V main_v1) (V main_v3)))
    main_v18_2 (k0_pay6 (k0_pay5 (col ![0, 0, 2] inb_S16x1x3_S16x1x1_0_0_2 (V main_v3))) (V main_arg2) (V main_v14)))
    main_v18_3 (k0_pay7 (V main_v15) (col ![0, 0, 0] inb_S16x1x3_S16x1x1_0_0_0 (V main_v5))))
    main_v18_4 (k0_pay9 (k0_pay8 (V main_v16) (col ![0, 0, 1] inb_S16x1x3_S16x1x1_0_0_1 (V main_v5)))))
    main_v18_5 (k0_pay10 (V main_v17) (col ![0, 0, 2] inb_S16x1x3_S16x1x1_0_0_2 (V main_v5)) (V main_v12))

theorem outs_spec (c : Dev nD) (V : Mem F c) : Outs c V (outs c V) where
  out0 := by
    unfold outs
    rw [Function.update_of_ne (by decide), Function.update_of_ne (by decide), Function.update_of_ne (by decide),
      Function.update_of_ne (by decide), Function.update_of_ne (by decide), Function.update_self]
  out1 := by
    unfold outs
    rw [Function.update_of_ne (by decide), Function.update_of_ne (by decide), Function.update_of_ne (by decide),
      Function.update_of_ne (by decide), Function.update_self]
  out2 := by
    unfold outs
    rw [Function.update_of_ne (by decide), Function.update_of_ne (by decide), Function.update_of_ne (by decide),
      Function.update_self]
  out3 := by
    unfold outs
    rw [Function.update_of_ne (by decide), Function.update_of_ne (by decide), Function.update_self]
  out4 := by
    unfold outs
    rw [Function.update_of_ne (by decide), Function.update_self]
  out5 := by
    unfold outs
    rw [Function.update_self]

/-- The results after the region. -/
abbrev G (c : Dev nD) : Mem F c := outs c (V m c)

/-- The region's one point: before it the results are as found, after it they hold their contents. -/
def dats (_ : Fin 1) (c : Dev nD) : Dat τ (Elt F) Unit ℕ (Pipeline.UD sig nD τ) ℕ cfg0 c where
  A w := V m c (Pipeline.arrRef cfg0.spec w)
  after w _ := w.elim0
  Φ t := if t.val = 0 then Pipeline.ΦDRV osem0 cfg0.spec H0 R0 (V m) (V m) c else Pipeline.ΦDRV osem0 cfg0.spec H0 R0 (V m) (G m) c
  q _ := fullShare
  owed _ := 0

theorem A_eq (c : Dev nD) (w : Fin cfg0.W) : (dats m 0 c).A w = V m c (Pipeline.arrRef cfg0.spec w) := rfl

theorem Phi_first (c : Dev nD) (t : Fin cfg0.N) :
    (dats m 0 c).Φ t.castSucc = iprop(scratch c ∗ counters c ∗ reads c (V m c) ∗ writes c (V m c)) := by
  have ht : t.val = 0 := congrArg Fin.val (fin_N0 t)
  exact (if_pos ht).trans (held_eq (V m) (V m) c)

theorem Phi_after (c : Dev nD) (t : Fin cfg0.N) :
    (dats m 0 c).Φ t.succ = iprop(scratch c ∗ counters c ∗ reads c (V m c) ∗ writes c (G m c)) :=
  (if_neg (c := t.succ.val = 0) (t := Pipeline.ΦDRV osem0 cfg0.spec H0 R0 (V m) (V m) c) (Nat.succ_ne_zero t.val)).trans (held_eq (V m) (G m) c)

def bodyPre (c : Dev nD) (t : Fin cfg0.N) : sProp (MM F) :=
  iprop((dats m 0 c).Φ t.castSucc ∗ (dats m 0 c).owesAt () t.castSucc ∗ emp)
def bodyPost (c : Dev nD) (t : Fin cfg0.N) : sProp (MM F) :=
  iprop((dats m 0 c).Φ t.succ ∗ (dats m 0 c).owesAt () t.succ ∗ emp)

theorem sound_body (c : Dev nD) (t : Fin cfg0.N) :
    bodyPre m c t ⊢ wp frame (wpE (defs₀ (F := F)) Variants.none c none) Set.univ (bodyAt0 t) (fun _ => bodyPost m c t) := by
  unfold bodyPre bodyPost
  rw [Phi_first, Phi_after, counters_rings]
  unfold Dat.owesAt Pipeline.owesWithin
  rw [show (dats m 0 c).owed t.castSucc = 0 from rfl, show (dats m 0 c).owed t.succ = 0 from rfl]
  refine BIBase.Entails.trans ?_ ((region_run c (V m c) (G m c) (outs_spec c _) t).trans (wp_mono _ _ _ fun _ => ?_))
  · iintro ⟨⟨HS, HC, HA, HO⟩, ⟨%W, -, HW⟩, -⟩
    isplitl [HS]; · iexact HS
    isplitl [HC]; · iexact HC
    isplitl [HA]; · iexact HA
    isplitl [HO]; · iexact HO
    iexists W; iexact HW
  · iintro ⟨HS, HC, HA, HO, ⟨%W, HW⟩⟩
    isplitl [HS HC HA HO]
    · isplitl [HS]; · iexact HS
      isplitl [HC]; · iexact HC
      isplitl [HA]; · iexact HA
      iexact HO
    isplitl [HW]
    · iexists W; isplitr; · ipureintro; exact fun _ _ => Or.inl trivial
      iexact HW
    iempintro

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [Finset.univ_eq_empty, bigSep_empty, bigSep_empty, defs₀_row]
  exact triple_restated (sound_body m c t) rfl .rfl fun _ => .rfl

set_option maxHeartbeats 800000 in
theorem hmain_ring : Pipeline.HMainK (Ix := Unit) (Name := ℕ) (U := Pipeline.UD sig nD τ) (Lvl := ℕ) cfgs 0 defs₀ Variants.none m
    (main (F := F)) (V m) (fun _ => Pipeline.chain ([hostOps1].map StableHlo.seq)) :=
  Pipeline.hmain_around cfgs 0 defs₀ Variants.none m main [hostOps0] [hostOps1] (by simp only [List.Forall]; exact hostOps0_sub)
    (by simp only [List.Forall]; exact hostOps0_fresh) main_chain

/-- What a buffer outside the region's scope holds at the end. -/
abbrev final (c : Dev nD) : Valuation τ sig (Elt F) :=
  StableHlo.after [hostOps1].flatten (Pipeline.withArrays cfg0.spec c (Pipeline.withR (V0 m c) R0 c (G m c))
    fun w => (dats m 0 c).arrAt w cfg0.N)

set_option backward.isDefEq.respectTransparency.types false in
theorem run_main : θ_run defs (onTc (τ := τ) (main (F := F))) (s₀ m ρ) (fun r =>
    (∀ c : Dev nD, ∀ b ∈ Pipeline.restRefs sig cfg0.spec, r.2.mem ((c : Thread nD τ).loc b) = final m c (Proc.devRef .tc b))
      ∧ r.2.sem = fun _ => 0) :=
  Pipeline.θ_run_frame_dmaR_aroundV (Q' := _) cfgs (dats m) (0 : Fin 1) launch0 osem0 defs₀ Variants.none ownSemFacts0 H0 R0 H0_sub R0_sub m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (G := G m) (hmain := hmain_ring m) (hA := A_eq m)
    (hin := fun _ => .rfl) (hout := fun _ => .rfl)
    (hQ' := fun _ h => ⟨fun c => (h.1 c).2, h.2⟩)

end Cert.KernelIdeal.Hand
end
-- ==== Proof.Ends.lean ====
/- What the run leaves: the arguments as they were, the counters at zero -/
module

public import proofs.«01_k».proof.Proof.Launched

@[expose] public section

set_option maxRecDepth 16384

noncomputable section

namespace Cert.KernelIdeal.Hand

open Cert.KernelIdeal Cert.KernelIdeal.Gen
open Idealize.ShloMosaic Idealize.ShloMosaic.TcCoe
open Idealize.SL Idealize.SL.Sem

variable {F : FTy → Type} [FloatOps F]
variable (m : (ℓ : Loc nD τ sig) → Buf (Elt F) ℓ) (ρ : Dev nD → PrngReg)

/-- What the lines after the region find: the results at their contents, the rest as the region found it. -/
abbrev after0 (c : Dev nD) : Valuation τ sig (Elt F) :=
  Pipeline.withArrays cfg0.spec c (Pipeline.withR (V0 m c) R0 c (G m c)) fun w => (dats m 0 c).arrAt w cfg0.N

theorem after0_result (c : Dev nD) (b : Ref sig .tc) (hb : b ∈ R0) : after0 m c (Proc.devRef .tc b) = G m c b :=
  (Pipeline.withArrays_of_ne _ c _ _ b fun w => w.elim0).trans (Pipeline.withR_of_mem _ R0 c _ b hb)

theorem after0_other (c : Dev nD) (b : Ref sig .tc) (hb : b ∉ R0) : after0 m c (Proc.devRef .tc b) = V m c b :=
  (Pipeline.withArrays_of_ne _ c _ _ b fun w => w.elim0).trans (Pipeline.withR_of_not_mem _ R0 c _ b hb)

/-- What the later lines write. -/
def late : Finset (Ref sig .tc) := {main_v19, main_v20, main_v21, main_v22, main_v23}

theorem final_kept (c : Dev nD) (b : Ref sig .tc) (hb : b ∉ late) : final m c (Proc.devRef .tc b) = after0 m c (Proc.devRef .tc b) :=
  StableHlo.after_of_forall_not_mem (b := Proc.devRef .tc b) _ _ (List.forall_iff_forall_mem.mp (by
    simp only [late, Finset.mem_insert, Finset.mem_singleton, not_or] at hb
    simp only [hostOps1, List.flatten_cons, List.flatten_nil, List.append_nil, List.cons_append,
      List.nil_append, List.Forall, StableHlo.reshape_writes, Finset.mem_singleton]
    exact ⟨StableHlo.devRef_ne_of_ne hb.1, StableHlo.devRef_ne_of_ne hb.2.1, StableHlo.devRef_ne_of_ne hb.2.2.1,
      StableHlo.devRef_ne_of_ne hb.2.2.2.1, StableHlo.devRef_ne_of_ne hb.2.2.2.2⟩))

/-- A buffer neither the region nor a later line writes. -/
theorem final_other (c : Dev nD) (b : Ref sig .tc) (h₁ : b ∉ late) (h₂ : b ∉ R0) : final m c (Proc.devRef .tc b) = V m c b :=
  (final_kept m c b h₁).trans (after0_other m c b h₂)

/-- The ten arguments are as they were. -/
abbrev Kept (c : Dev nD) (μ : (ℓ : Loc nD τ sig) → Buf (Elt F) ℓ) : Prop :=
  μ ((c.tc : Thread nD τ).loc main_arg0) = m ((c.tc : Thread nD τ).loc main_arg0)
  ∧ μ ((c.tc : Thread nD τ).loc main_arg1) = m ((c.tc : Thread nD τ).loc main_arg1)
  ∧ μ ((c.tc : Thread nD τ).loc main_arg2) = m ((c.tc : Thread nD τ).loc main_arg2)
  ∧ μ ((c.tc : Thread nD τ).loc main_arg3) = m ((c.tc : Thread nD τ).loc main_arg3)
  ∧ μ ((c.tc : Thread nD τ).loc main_arg4) = m ((c.tc : Thread nD τ).loc main_arg4)
  ∧ μ ((c.tc : Thread nD τ).loc main_arg5) = m ((c.tc : Thread nD τ).loc main_arg5)
  ∧ μ ((c.tc : Thread nD τ).loc main_arg6) = m ((c.tc : Thread nD τ).loc main_arg6)
  ∧ μ ((c.tc : Thread nD τ).loc main_arg7) = m ((c.tc : Thread nD τ).loc main_arg7)
  ∧ μ ((c.tc : Thread nD τ).loc main_arg8) = m ((c.tc : Thread nD τ).loc main_arg8)
  ∧ μ ((c.tc : Thread nD τ).loc main_arg9) = m ((c.tc : Thread nD τ).loc main_arg9)

/-- What a run's end says of every buffer outside the region's scope. -/
abbrev Ends (c : Dev nD) (μ : (ℓ : Loc nD τ sig) → Buf (Elt F) ℓ) : Prop :=
  ∀ b ∈ Pipeline.restRefs sig cfg0.spec, μ ((c : Thread nD τ).loc b) = final m c (Proc.devRef .tc b)

theorem kept_of_ends (c : Dev nD) (μ : (ℓ : Loc nD τ sig) → Buf (Elt F) ℓ) (h : Ends m c μ) : Kept m c μ :=
  ⟨(h main_arg0 (by decide)).trans ((final_other m c main_arg0 (by decide) (by decide)).trans (V_main_arg0 m c)),
   (h main_arg1 (by decide)).trans ((final_other m c main_arg1 (by decide) (by decide)).trans (V_main_arg1 m c)),
   (h main_arg2 (by decide)).trans ((final_other m c main_arg2 (by decide) (by decide)).trans (V_main_arg2 m c)),
   (h main_arg3 (by decide)).trans ((final_other m c main_arg3 (by decide) (by decide)).trans (V_main_arg3 m c)),
   (h main_arg4 (by decide)).trans ((final_other m c main_arg4 (by decide) (by decide)).trans (V_main_arg4 m c)),
   (h main_arg5 (by decide)).trans ((final_other m c main_arg5 (by decide) (by decide)).trans (V_main_arg5 m c)),
   (h main_arg6 (by decide)).trans ((final_other m c main_arg6 (by decide) (by decide)).trans (V_main_arg6 m c)),
   (h main_arg7 (by decide)).trans ((final_other m c main_arg7 (by decide) (by decide)).trans (V_main_arg7 m c)),
   (h main_arg8 (by decide)).trans ((final_other m c main_arg8 (by decide) (by decide)).trans (V_main_arg8 m c)),
   (h main_arg9 (by decide)).trans ((final_other m c main_arg9 (by decide) (by decide)).trans (V_main_arg9 m c))⟩

/-- The program runs, its arguments end as they were, and every counter is at zero again. -/
theorem frame : θ_run defs (onTc (τ := τ) (main (F := F))) ⟨m, fun _ => 0, ρ⟩ (fun r =>
    (∀ c : Dev nD, Kept m c r.2.mem) ∧ r.2.sem = fun _ => 0) :=
  (θ_run defs _ _).mono (fun _ h => ⟨fun c => kept_of_ends m c _ (h.1 c), h.2⟩) (run_main m ρ)

end Cert.KernelIdeal.Hand
end
-- ==== Proof.Bits.lean ====
/- The kernel at machine numbers: its text is the ideal program's, read at `Bits` -/
module

public import proofs.«01_k».proof.Proof.Ends
public import proofs.«01_k».proof.Proof.Gen.Kernel
public import proofs.«01_k».proof.Defs

@[expose] public section

set_option maxRecDepth 16384

noncomputable section

namespace Cert.Kernel.Hand

open Idealize.ShloMosaic Idealize.ShloMosaic.TcCoe
open Idealize.SL Idealize.SL.Sem

theorem frame : Cert.quiescent_Kernel (hKernel := Cert.Kernel.Gen.facts) := fun m g _ =>
  Cert.KernelIdeal.Hand.frame (F := Bits) m g

end Cert.Kernel.Hand
end
-- ==== Proof.Elements.lean ====
/- The kernel's results, element by element, in terms of the program's arguments -/
module

public import Idealize.ShloMosaic.Lib.PointwiseCore
public import Idealize.ShloMosaic.Lib.Pointwise.Reshape
public import Idealize.ShloMosaic.Lib.Pipeline.Value
public import proofs.«01_k».proof.Proof.Region

@[expose] public section

set_option maxRecDepth 16384

noncomputable section

namespace Cert.KernelIdeal.Hand

open Cert.KernelIdeal Cert.KernelIdeal.Gen
open Idealize.ShloMosaic Idealize.ShloMosaic.TcCoe

variable {F : FTy → Type} [FloatOps F]

/-! ## The tables, as the host lines lay them out -/

/-- A table of three rows of sixteen channels, channels first. -/
def table (w : Vec F S3x16 .f32) : Vec F S16x1x3 .f32 :=
  shapeCast S16x1x3 (transpose S16x3 [1, 0] w transposes_S3x16_S16x3_1_0) shapeCasts_S16x3_S16x1x3

theorem table_at (w : Vec F S3x16 .f32) (c : Fin 16) (l : Fin 3) : table w (ix3 c (0 : Fin 1) l) = w (ix2 l c) := by
  pointwise [table]

theorem col_at (P : Vec F S16x1x3 .f32) (l : Fin 3) (inb : ∀ a, (![0, 0, l.val] : Fin 3 → ℕ) a + S16x1x1.size a ≤ S16x1x3.size a)
    (c : Fin 16) : col ![0, 0, l.val] inb P (ix3 c (0 : Fin 1) (0 : Fin 1)) = P (ix3 c (0 : Fin 1) l) := by
  unfold col
  refine congrArg P (funext fun a => Fin.ext ?_)
  fin_cases a
  · show 0 + 1 * c.val = c.val; omega
  · rfl
  · show l.val + 1 * 0 = l.val; omega

/-- One row of a table, read through the column the kernel loads. -/
theorem row_at (w : Vec F S3x16 .f32) (l : Fin 3) (inb : ∀ a, (![0, 0, l.val] : Fin 3 → ℕ) a + S16x1x1.size a ≤ S16x1x3.size a)
    (c : Fin 16) : col ![0, 0, l.val] inb (table w) (ix3 c (0 : Fin 1) (0 : Fin 1)) = w (ix2 l c) :=
  (col_at _ l inb c).trans (table_at w c l)

/-- The input embedding over its channels' hidden units, laid out as the kernel's tile. -/
def inputs (e : Vec F S784x16 .f32) : Vec F S16x8x25088 .f32 :=
  shapeCast S16x8x25088 (shapeCast S16x200704 (broadcastInDim S1x16x256x784 ![0, 1, 2, 3] bcast_S1x16x1x784_S1x16x256x784_0_1_2_3
    (shapeCast S1x16x1x784 (transpose S16x784 [1, 0] e transposes_S784x16_S16x784_1_0) shapeCasts_S16x784_S1x16x1x784))
    shapeCasts_S1x16x256x784_S16x200704) shapeCasts_S16x200704_S16x8x25088

theorem inputs_at (e : Vec F S784x16 .f32) (c : Fin 16) (r : Fin 8) (q : Fin 25088) (h : Fin 256) (n : Fin 784)
    (hrq : r.val * 25088 + q.val = h.val * 784 + n.val) : inputs e (ix3 c r q) = e (ix2 n c) := by
  unfold inputs
  rw [shapeCast_comp]
  refine (_root_.Idealize.ShloMosaic.shapeCast_apply _ _ (ix3 c r q) (ix4 (0 : Fin 1) c h n) ?_).trans ?_
  · rw [rowMajor_val4 _ 3211264 200704 784 rfl rfl rfl, rowMajor_val3 _ 200704 25088 rfl rfl]
    show 0 * 3211264 + c.val * 200704 + h.val * 784 + n.val = c.val * 200704 + r.val * 25088 + q.val
    simp only [Nat.zero_mul, Nat.zero_add, Nat.add_assoc, hrq]
  · pointwise []

/-- The output embedding as a row and as a column of each channel. -/
def outRow (e : Vec F S10x16 .f32) : Vec F S16x1x10 .f32 :=
  shapeCast S16x1x10 (transpose S16x10 [1, 0] e transposes_S10x16_S16x10_1_0) shapeCasts_S16x10_S16x1x10
def outCol (e : Vec F S10x16 .f32) : Vec F S16x10x1 .f32 :=
  shapeCast S16x10x1 (transpose S16x10 [1, 0] e transposes_S10x16_S16x10_1_0) shapeCasts_S16x10_S16x10x1

theorem outRow_at (e : Vec F S10x16 .f32) (c : Fin 16) (o : Fin 10) : outRow e (ix3 c (0 : Fin 1) o) = e (ix2 o c) := by
  pointwise [outRow]
theorem outCol_at (e : Vec F S10x16 .f32) (c : Fin 16) (o : Fin 10) : outCol e (ix3 c o (0 : Fin 1)) = e (ix2 o c) := by
  pointwise [outCol]

/-! ## The results -/

theorem tileOf_at (IT : Vec F S16x8x25088 .f32) (w : Vec F S3x16 .f32) (c : Fin 16) (r : Fin 8) (q : Fin 25088) :
    tileOf IT (table w) (ix3 c r q) = FloatOps.addf (IT (ix3 c r q)) (w (ix2 (0 : Fin 3) c)) := by
  unfold tileOf
  rw [← row_at w 0 inb_S16x1x3_S16x1x1_0_0_0 c]
  pointwise [k0_pay4, k0_pay3]

/-- Layer 0's weights plus the tile: the two blocked forms meet at the same channel, hidden unit and input. -/
def kOut0 (w0 : Vec F S8x16x256x784 .f32) (w : Vec F S3x16 .f32) (e : Vec F S784x16 .f32) : Vec F S8x16x256x784 .f32 :=
  shapeCast S8x16x256x784 (res0 (shapeCast S64x2x8x25088 w0 shapeCasts_S8x16x256x784_S64x2x8x25088) (tileOf (inputs e) (table w)))
    shapeCasts_S64x2x8x25088_S8x16x256x784

theorem kOut0_at (w0 : Vec F S8x16x256x784 .f32) (w : Vec F S3x16 .f32) (e : Vec F S784x16 .f32)
    (b : Fin 8) (c : Fin 16) (h : Fin 256) (n : Fin 784) :
    kOut0 w0 w e (ix4 b c h n)
      = FloatOps.addf (w0 (ix4 b c h n)) (FloatOps.addf (e (ix2 n c)) (w (ix2 (0 : Fin 3) c))) := by
  have hb := b.isLt
  have hc := c.isLt
  have hh := h.isLt
  have hn := n.isLt
  obtain ⟨k, hk⟩ : ∃ k : Fin 64, k.val = b.val * 8 + c.val / 2 := ⟨⟨_, by omega⟩, rfl⟩
  obtain ⟨s, hs⟩ : ∃ s : Fin 2, s.val = c.val % 2 := ⟨⟨_, by omega⟩, rfl⟩
  obtain ⟨r, hr⟩ : ∃ r : Fin 8, r.val = h.val / 32 := ⟨⟨_, by omega⟩, rfl⟩
  obtain ⟨q, hq⟩ : ∃ q : Fin 25088, q.val = h.val % 32 * 784 + n.val := ⟨⟨_, by omega⟩, rfl⟩
  have hrq : r.val * 25088 + q.val = h.val * 784 + n.val := by omega
  have hks : k.val * 401408 + s.val * 200704 = b.val * 3211264 + c.val * 200704 := by
    have h2 : (k.val * 2 + s.val) * 200704 = (b.val * 16 + c.val) * 200704 := congrArg (· * 200704) (by omega)
    simpa only [Nat.add_mul, Nat.mul_assoc, Nat.reduceMul] using h2
  have hchan : chan k s = c := Fin.ext (show 2 * (k.val % 8) + s.val = c.val by omega)
  have hpos : (S64x2x8x25088.rowMajor (ix4 k s r q)).val = (S8x16x256x784.rowMajor (ix4 b c h n)).val := by
    rw [rowMajor_val4 _ 401408 200704 25088 rfl rfl rfl, rowMajor_val4 _ 3211264 200704 784 rfl rfl rfl]
    show k.val * 401408 + s.val * 200704 + r.val * 25088 + q.val = b.val * 3211264 + c.val * 200704 + h.val * 784 + n.val
    rw [hks, Nat.add_assoc, hrq, ← Nat.add_assoc]
  unfold kOut0
  refine (_root_.Idealize.ShloMosaic.shapeCast_apply _ _ _ (ix4 k s r q) hpos).trans ?_
  refine congrArg₂ FloatOps.addf (_root_.Idealize.ShloMosaic.shapeCast_apply _ _ _ (ix4 b c h n) hpos.symm) ?_
  show tileOf (inputs e) (table w) (ix3 (chan k s) r q) = _
  rw [hchan]
  exact (tileOf_at _ _ _ _ _).trans (congrArg₂ FloatOps.addf (inputs_at e c r q h n hrq) rfl)

/-- Layer 1's weights plus the embedding of their channel. -/
def kOut1 (w1 : Vec F S8x16x256x256 .f32) (w : Vec F S3x16 .f32) : Vec F S8x16x256x256 .f32 :=
  shapeCast S8x16x256x256 (res1 (shapeCast S64x2x256x256 w1 shapeCasts_S8x16x256x256_S64x2x256x256) (table w))
    shapeCasts_S64x2x256x256_S8x16x256x256

theorem kOut1_at (w1 : Vec F S8x16x256x256 .f32) (w : Vec F S3x16 .f32) (b : Fin 8) (c : Fin 16) (h n : Fin 256) :
    kOut1 w1 w (ix4 b c h n) = FloatOps.addf (w1 (ix4 b c h n)) (w (ix2 (1 : Fin 3) c)) := by
  have hb := b.isLt
  have hc := c.isLt
  obtain ⟨k, hk⟩ : ∃ k : Fin 64, k.val = b.val * 8 + c.val / 2 := ⟨⟨_, by omega⟩, rfl⟩
  obtain ⟨s, hs⟩ : ∃ s : Fin 2, s.val = c.val % 2 := ⟨⟨_, by omega⟩, rfl⟩
  have hks : k.val * 131072 + s.val * 65536 = b.val * 1048576 + c.val * 65536 := by omega
  have hchan : chan k s = c := Fin.ext (show 2 * (k.val % 8) + s.val = c.val by omega)
  have hpos : (S64x2x256x256.rowMajor (ix4 k s h n)).val = (S8x16x256x256.rowMajor (ix4 b c h n)).val := by
    rw [rowMajor_val4 _ 131072 65536 256 rfl rfl rfl, rowMajor_val4 _ 1048576 65536 256 rfl rfl rfl]
    show k.val * 131072 + s.val * 65536 + h.val * 256 + n.val = b.val * 1048576 + c.val * 65536 + h.val * 256 + n.val
    rw [hks]
  unfold kOut1
  refine (_root_.Idealize.ShloMosaic.shapeCast_apply _ _ _ (ix4 k s h n) hpos).trans ?_
  refine congrArg₂ FloatOps.addf (_root_.Idealize.ShloMosaic.shapeCast_apply _ _ _ (ix4 b c h n) hpos.symm) ?_
  show table w (ix3 (chan k s) (0 : Fin 1) (1 : Fin 3)) = _
  rw [hchan]
  exact table_at w c 1

/-- Layer 2's weights plus their channel's embedding plus the output embedding. -/
def kOut2 (w2 : Vec F S8x16x10x256 .f32) (w : Vec F S3x16 .f32) (e : Vec F S10x16 .f32) : Vec F S8x16x10x256 .f32 :=
  k0_pay6 (k0_pay5 (col ![0, 0, 2] inb_S16x1x3_S16x1x1_0_0_2 (table w))) w2 (outCol e)

theorem kOut2_at (w2 : Vec F S8x16x10x256 .f32) (w : Vec F S3x16 .f32) (e : Vec F S10x16 .f32)
    (b : Fin 8) (c : Fin 16) (o : Fin 10) (h : Fin 256) : kOut2 w2 w e (ix4 b c o h)
      = FloatOps.addf (FloatOps.addf (w2 (ix4 b c o h)) (w (ix2 (2 : Fin 3) c))) (e (ix2 o c)) := by
  rw [← row_at w 2 inb_S16x1x3_S16x1x1_0_0_2 c, ← outCol_at e c o]
  pointwise [kOut2, k0_pay6, k0_pay5]

/-- A hidden layer's biases plus the embedding of their channel. -/
def kBias0 (v : Vec F S8x16x256 .f32) (w : Vec F S3x16 .f32) : Vec F S8x16x256 .f32 :=
  shapeCast S8x16x256 (k0_pay7 (shapeCast S8x16x1x256 v shapeCasts_S8x16x256_S8x16x1x256)
    (col ![0, 0, 0] inb_S16x1x3_S16x1x1_0_0_0 (table w))) shapeCasts_S8x16x1x256_S8x16x256
def kBias1 (v : Vec F S8x16x256 .f32) (w : Vec F S3x16 .f32) : Vec F S8x16x256 .f32 :=
  shapeCast S8x16x256 (k0_pay9 (k0_pay8 (shapeCast S8x16x1x256 v shapeCasts_S8x16x256_S8x16x1x256)
    (col ![0, 0, 1] inb_S16x1x3_S16x1x1_0_0_1 (table w)))) shapeCasts_S8x16x1x256_S8x16x256
/-- The output layer's biases plus their channel's embedding plus the output embedding. -/
def kBias2 (v : Vec F S8x16x10 .f32) (w : Vec F S3x16 .f32) (e : Vec F S10x16 .f32) : Vec F S8x16x10 .f32 :=
  shapeCast S8x16x10 (k0_pay10 (shapeCast S8x16x1x10 v shapeCasts_S8x16x10_S8x16x1x10)
    (col ![0, 0, 2] inb_S16x1x3_S16x1x1_0_0_2 (table w)) (outRow e)) shapeCasts_S8x16x1x10_S8x16x10

theorem kBias0_at (v : Vec F S8x16x256 .f32) (w : Vec F S3x16 .f32) (b : Fin 8) (c : Fin 16) (h : Fin 256) :
    kBias0 v w (ix3 b c h) = FloatOps.addf (v (ix3 b c h)) (w (ix2 (0 : Fin 3) c)) := by
  rw [← row_at w 0 inb_S16x1x3_S16x1x1_0_0_0 c]
  pointwise [kBias0, k0_pay7]

theorem kBias1_at (v : Vec F S8x16x256 .f32) (w : Vec F S3x16 .f32) (b : Fin 8) (c : Fin 16) (h : Fin 256) :
    kBias1 v w (ix3 b c h) = FloatOps.addf (v (ix3 b c h)) (w (ix2 (1 : Fin 3) c)) := by
  rw [← row_at w 1 inb_S16x1x3_S16x1x1_0_0_1 c]
  pointwise [kBias1, k0_pay9, k0_pay8]

theorem kBias2_at (v : Vec F S8x16x10 .f32) (w : Vec F S3x16 .f32) (e : Vec F S10x16 .f32)
    (b : Fin 8) (c : Fin 16) (o : Fin 10) : kBias2 v w e (ix3 b c o)
      = FloatOps.addf (FloatOps.addf (v (ix3 b c o)) (w (ix2 (2 : Fin 3) c))) (e (ix2 o c)) := by
  rw [← row_at w 2 inb_S16x1x3_S16x1x1_0_0_2 c, ← outRow_at e c o]
  pointwise [kBias2, k0_pay10]

end Cert.KernelIdeal.Hand
end
-- ==== Proof.Values.lean ====
/- What the kernel's program leaves in its results, as terms of its arguments -/
module

public import Idealize.ShloMosaic.Lib.StableHlo.Run
public import proofs.«01_k».proof.Proof.Ends
public import proofs.«01_k».proof.Proof.Elements

@[expose] public section

set_option maxRecDepth 16384

noncomputable section

namespace Cert.KernelIdeal.Hand

open Cert.KernelIdeal Cert.KernelIdeal.Gen
open Idealize.ShloMosaic Idealize.ShloMosaic.TcCoe Idealize.ShloMosaic.StableHlo
open Idealize.SL Idealize.SL.Sem

variable {F : FTy → Type} [FloatOps F]
variable (m : (ℓ : Loc nD τ sig) → Buf (Elt F) ℓ) (ρ : Dev nD → PrngReg) (c : Dev nD)

/-- An argument, as the launch finds it. -/
abbrev arg (b : Ref sig .tc) : Buf (Elt F) ((c.tc : Thread nD τ).loc b) := m ((c.tc : Thread nD τ).loc b)

/-! ## What the region finds -/

theorem entry_v0 : V m c main_v0 = shapeCast S64x2x8x25088 (arg m c main_arg0) shapeCasts_S8x16x256x784_S64x2x8x25088 := by
  show StableHlo.after hostOps0 (fun b => m (c, b)) (Proc.devRef .tc main_v0) = _
  simp only [hostOps0, after_cons, after_nil]
  after_results_simp <;> rfl
theorem entry_v1 : V m c main_v1 = shapeCast S64x2x256x256 (arg m c main_arg1) shapeCasts_S8x16x256x256_S64x2x256x256 := by
  show StableHlo.after hostOps0 (fun b => m (c, b)) (Proc.devRef .tc main_v1) = _
  simp only [hostOps0, after_cons, after_nil]
  after_results_simp <;> rfl
theorem entry_v3 : V m c main_v3 = table (arg m c main_arg6) := by
  show StableHlo.after hostOps0 (fun b => m (c, b)) (Proc.devRef .tc main_v3) = _
  simp only [hostOps0, after_cons, after_nil]
  after_results_simp <;> rfl
theorem entry_v5 : V m c main_v5 = table (arg m c main_arg7) := by
  show StableHlo.after hostOps0 (fun b => m (c, b)) (Proc.devRef .tc main_v5) = _
  simp only [hostOps0, after_cons, after_nil]
  after_results_simp <;> rfl
theorem entry_v10 : V m c main_v10 = inputs (arg m c main_arg8) := by
  show StableHlo.after hostOps0 (fun b => m (c, b)) (Proc.devRef .tc main_v10) = _
  simp only [hostOps0, after_cons, after_nil]
  after_results_simp <;> rfl
theorem entry_v12 : V m c main_v12 = outRow (arg m c main_arg9) := by
  show StableHlo.after hostOps0 (fun b => m (c, b)) (Proc.devRef .tc main_v12) = _
  simp only [hostOps0, after_cons, after_nil]
  after_results_simp <;> rfl
theorem entry_v14 : V m c main_v14 = outCol (arg m c main_arg9) := by
  show StableHlo.after hostOps0 (fun b => m (c, b)) (Proc.devRef .tc main_v14) = _
  simp only [hostOps0, after_cons, after_nil]
  after_results_simp <;> rfl
theorem entry_v15 : V m c main_v15 = shapeCast S8x16x1x256 (arg m c main_arg3) shapeCasts_S8x16x256_S8x16x1x256 := by
  show StableHlo.after hostOps0 (fun b => m (c, b)) (Proc.devRef .tc main_v15) = _
  simp only [hostOps0, after_cons, after_nil]
  after_results_simp <;> rfl
theorem entry_v16 : V m c main_v16 = shapeCast S8x16x1x256 (arg m c main_arg4) shapeCasts_S8x16x256_S8x16x1x256 := by
  show StableHlo.after hostOps0 (fun b => m (c, b)) (Proc.devRef .tc main_v16) = _
  simp only [hostOps0, after_cons, after_nil]
  after_results_simp <;> rfl
theorem entry_v17 : V m c main_v17 = shapeCast S8x16x1x10 (arg m c main_arg5) shapeCasts_S8x16x10_S8x16x1x10 := by
  show StableHlo.after hostOps0 (fun b => m (c, b)) (Proc.devRef .tc main_v17) = _
  simp only [hostOps0, after_cons, after_nil]
  after_results_simp <;> rfl

/-! ## What the lines after the region make of its results -/

theorem late_v19 (W : Valuation τ sig (Elt F)) : StableHlo.after (List.flatten [hostOps1]) W (Proc.devRef .tc main_v19)
    = shapeCast S8x16x256x784 (W (Proc.devRef .tc main_v18_0)) shapeCasts_S64x2x8x25088_S8x16x256x784 := by
  show StableHlo.after hostOps1 W (Proc.devRef .tc main_v19) = _
  simp only [hostOps1, after_cons, after_nil]
  after_results_simp <;> rfl
theorem late_v20 (W : Valuation τ sig (Elt F)) : StableHlo.after (List.flatten [hostOps1]) W (Proc.devRef .tc main_v20)
    = shapeCast S8x16x256x256 (W (Proc.devRef .tc main_v18_1)) shapeCasts_S64x2x256x256_S8x16x256x256 := by
  show StableHlo.after hostOps1 W (Proc.devRef .tc main_v20) = _
  simp only [hostOps1, after_cons, after_nil]
  after_results_simp <;> rfl
theorem late_v21 (W : Valuation τ sig (Elt F)) : StableHlo.after (List.flatten [hostOps1]) W (Proc.devRef .tc main_v21)
    = shapeCast S8x16x256 (W (Proc.devRef .tc main_v18_3)) shapeCasts_S8x16x1x256_S8x16x256 := by
  show StableHlo.after hostOps1 W (Proc.devRef .tc main_v21) = _
  simp only [hostOps1, after_cons, after_nil]
  after_results_simp <;> rfl
theorem late_v22 (W : Valuation τ sig (Elt F)) : StableHlo.after (List.flatten [hostOps1]) W (Proc.devRef .tc main_v22)
    = shapeCast S8x16x256 (W (Proc.devRef .tc main_v18_4)) shapeCasts_S8x16x1x256_S8x16x256 := by
  show StableHlo.after hostOps1 W (Proc.devRef .tc main_v22) = _
  simp only [hostOps1, after_cons, after_nil]
  after_results_simp <;> rfl
theorem late_v23 (W : Valuation τ sig (Elt F)) : StableHlo.after (List.flatten [hostOps1]) W (Proc.devRef .tc main_v23)
    = shapeCast S8x16x10 (W (Proc.devRef .tc main_v18_5)) shapeCasts_S8x16x1x10_S8x16x10 := by
  show StableHlo.after hostOps1 W (Proc.devRef .tc main_v23) = _
  simp only [hostOps1, after_cons, after_nil]
  after_results_simp <;> rfl

/-! ## The results -/

theorem result_v19 : final m c (Proc.devRef .tc main_v19) = kOut0 (arg m c main_arg0) (arg m c main_arg6) (arg m c main_arg8) := by
  refine (late_v19 _).trans (congrArg (fun x => shapeCast S8x16x256x784 x shapeCasts_S64x2x8x25088_S8x16x256x784) ?_)
  refine (after0_result m c main_v18_0 (by decide)).trans ((outs_spec c (V m c)).out0.trans ?_)
  rw [entry_v0, entry_v10, entry_v3]
theorem result_v20 : final m c (Proc.devRef .tc main_v20) = kOut1 (arg m c main_arg1) (arg m c main_arg6) := by
  refine (late_v20 _).trans (congrArg (fun x => shapeCast S8x16x256x256 x shapeCasts_S64x2x256x256_S8x16x256x256) ?_)
  refine (after0_result m c main_v18_1 (by decide)).trans ((outs_spec c (V m c)).out1.trans ?_)
  rw [entry_v1, entry_v3]
theorem result_v18_2 : final m c (Proc.devRef .tc main_v18_2) = kOut2 (arg m c main_arg2) (arg m c main_arg6) (arg m c main_arg9) := by
  refine (final_kept m c main_v18_2 (by decide)).trans ?_
  refine (after0_result m c main_v18_2 (by decide)).trans ((outs_spec c (V m c)).out2.trans ?_)
  rw [entry_v3, entry_v14, V_main_arg2]
  rfl
theorem result_v21 : final m c (Proc.devRef .tc main_v21) = kBias0 (arg m c main_arg3) (arg m c main_arg7) := by
  refine (late_v21 _).trans (congrArg (fun x => shapeCast S8x16x256 x shapeCasts_S8x16x1x256_S8x16x256) ?_)
  refine (after0_result m c main_v18_3 (by decide)).trans ((outs_spec c (V m c)).out3.trans ?_)
  rw [entry_v15, entry_v5]
theorem result_v22 : final m c (Proc.devRef .tc main_v22) = kBias1 (arg m c main_arg4) (arg m c main_arg7) := by
  refine (late_v22 _).trans (congrArg (fun x => shapeCast S8x16x256 x shapeCasts_S8x16x1x256_S8x16x256) ?_)
  refine (after0_result m c main_v18_4 (by decide)).trans ((outs_spec c (V m c)).out4.trans ?_)
  rw [entry_v16, entry_v5]
theorem result_v23 : final m c (Proc.devRef .tc main_v23) = kBias2 (arg m c main_arg5) (arg m c main_arg7) (arg m c main_arg9) := by
  refine (late_v23 _).trans (congrArg (fun x => shapeCast S8x16x10 x shapeCasts_S8x16x1x10_S8x16x10) ?_)
  refine (after0_result m c main_v18_5 (by decide)).trans ((outs_spec c (V m c)).out5.trans ?_)
  rw [entry_v17, entry_v5, entry_v12]

/-- The program runs, its results end at those terms, and its arguments end as they were. -/
theorem run_values : θ_run defs (onTc (τ := τ) (main (F := F))) ⟨m, fun _ => 0, ρ⟩ (fun r => ∀ c : Dev nD,
    r.2.mem ((c.tc : Thread nD τ).loc main_v19) = kOut0 (arg m c main_arg0) (arg m c main_arg6) (arg m c main_arg8)
    ∧ r.2.mem ((c.tc : Thread nD τ).loc main_v20) = kOut1 (arg m c main_arg1) (arg m c main_arg6)
    ∧ r.2.mem ((c.tc : Thread nD τ).loc main_v18_2) = kOut2 (arg m c main_arg2) (arg m c main_arg6) (arg m c main_arg9)
    ∧ r.2.mem ((c.tc : Thread nD τ).loc main_v21) = kBias0 (arg m c main_arg3) (arg m c main_arg7)
    ∧ r.2.mem ((c.tc : Thread nD τ).loc main_v22) = kBias1 (arg m c main_arg4) (arg m c main_arg7)
    ∧ r.2.mem ((c.tc : Thread nD τ).loc main_v23) = kBias2 (arg m c main_arg5) (arg m c main_arg7) (arg m c main_arg9)
    ∧ Kept m c r.2.mem) :=
  (θ_run defs _ _).mono (fun _ h c =>
    ⟨(h.1 c main_v19 (by decide)).trans (result_v19 m c), (h.1 c main_v20 (by decide)).trans (result_v20 m c),
      (h.1 c main_v18_2 (by decide)).trans (result_v18_2 m c), (h.1 c main_v21 (by decide)).trans (result_v21 m c),
      (h.1 c main_v22 (by decide)).trans (result_v22 m c), (h.1 c main_v23 (by decide)).trans (result_v23 m c),
      kept_of_ends m c _ (h.1 c)⟩) (run_main m ρ)

end Cert.KernelIdeal.Hand
end
-- ==== Proof.Equal.lean ====
/- The reference's results, element by element, and that the kernel's are equal to them -/
module

public import Idealize.ShloMosaic.Lib.Pointwise.Tactic
public import Idealize.ShloMosaic.Lib.Pointwise.Reshape
public import proofs.«01_k».proof.Proof.Elements
public import proofs.«01_k».proof.Proof.Gen.ReferenceIdeal

@[expose] public section

set_option maxRecDepth 16384

noncomputable section

namespace Cert.ReferenceIdeal.Hand

open Cert.ReferenceIdeal Cert.ReferenceIdeal.Gen
open Idealize.ShloMosaic Idealize.ShloMosaic.TcCoe
open Cert.KernelIdeal.Hand (kOut0 kOut1 kOut2 kBias0 kBias1 kBias2 kOut0_at kOut1_at kOut2_at kBias0_at kBias1_at kBias2_at)

section General
variable {F : FTy → Type} [FloatOps F]

/-! ## The reference's results -/

def rOut0 (w0 : Vec F S8x16x256x784 .f32) (w : Vec F S3x16 .f32) (e : Vec F S784x16 .f32) : Vec F S8x16x256x784 .f32 :=
  addf (addf w0 (broadcastInDim S8x16x256x784 ![0, 1, 2, 3] bcast_S1x16x1x1_S8x16x256x784_0_1_2_3 (broadcastInDim S1x16x1x1 ![1] bcast_S16_S1x16x1x1_1 (shapeCast S16 (extractStridedSlice S1x16 ![0, 0] w slices_S3x16_S1x16_0_0) shapeCasts_S1x16_S16))))
    (broadcastInDim S8x16x256x784 ![0, 1, 2, 3] bcast_S1x16x1x784_S8x16x256x784_0_1_2_3 (broadcastInDim S1x16x1x784 ![1, 3] bcast_S16x784_S1x16x1x784_1_3 (transpose S16x784 [1, 0] e transposes_S784x16_S16x784_1_0)))

def rOut1 (w1 : Vec F S8x16x256x256 .f32) (w : Vec F S3x16 .f32) : Vec F S8x16x256x256 .f32 :=
  addf w1 (broadcastInDim S8x16x256x256 ![0, 1, 2, 3] bcast_S1x16x1x1_S8x16x256x256_0_1_2_3 (broadcastInDim S1x16x1x1 ![1] bcast_S16_S1x16x1x1_1 (shapeCast S16 (extractStridedSlice S1x16 ![1, 0] w slices_S3x16_S1x16_1_0) shapeCasts_S1x16_S16)))

def rOut2 (w2 : Vec F S8x16x10x256 .f32) (w : Vec F S3x16 .f32) (e : Vec F S10x16 .f32) : Vec F S8x16x10x256 .f32 :=
  addf (addf w2 (broadcastInDim S8x16x10x256 ![0, 1, 2, 3] bcast_S1x16x1x1_S8x16x10x256_0_1_2_3 (broadcastInDim S1x16x1x1 ![1] bcast_S16_S1x16x1x1_1 (shapeCast S16 (extractStridedSlice S1x16 ![2, 0] w slices_S3x16_S1x16_2_0) shapeCasts_S1x16_S16))))
    (broadcastInDim S8x16x10x256 ![0, 1, 2, 3] bcast_S1x16x10x1_S8x16x10x256_0_1_2_3 (broadcastInDim S1x16x10x1 ![1, 2] bcast_S16x10_S1x16x10x1_1_2 (transpose S16x10 [1, 0] e transposes_S10x16_S16x10_1_0)))

def rBias0 (v : Vec F S8x16x256 .f32) (w : Vec F S3x16 .f32) : Vec F S8x16x256 .f32 :=
  addf v (broadcastInDim S8x16x256 ![0, 1, 2] bcast_S1x16x1_S8x16x256_0_1_2 (broadcastInDim S1x16x1 ![1] bcast_S16_S1x16x1_1 (shapeCast S16 (extractStridedSlice S1x16 ![0, 0] w slices_S3x16_S1x16_0_0) shapeCasts_S1x16_S16)))

def rBias1 (v : Vec F S8x16x256 .f32) (w : Vec F S3x16 .f32) : Vec F S8x16x256 .f32 :=
  addf v (broadcastInDim S8x16x256 ![0, 1, 2] bcast_S1x16x1_S8x16x256_0_1_2 (broadcastInDim S1x16x1 ![1] bcast_S16_S1x16x1_1 (shapeCast S16 (extractStridedSlice S1x16 ![1, 0] w slices_S3x16_S1x16_1_0) shapeCasts_S1x16_S16)))

def rBias2 (v : Vec F S8x16x10 .f32) (w : Vec F S3x16 .f32) (e : Vec F S10x16 .f32) : Vec F S8x16x10 .f32 :=
  addf (addf v (broadcastInDim S8x16x10 ![0, 1, 2] bcast_S1x16x1_S8x16x10_0_1_2 (broadcastInDim S1x16x1 ![1] bcast_S16_S1x16x1_1 (shapeCast S16 (extractStridedSlice S1x16 ![2, 0] w slices_S3x16_S1x16_2_0) shapeCasts_S1x16_S16))))
    (broadcastInDim S8x16x10 ![0, 1, 2] bcast_S1x16x10_S8x16x10_0_1_2 (broadcastInDim S1x16x10 ![1, 2] bcast_S16x10_S1x16x10_1_2 (transpose S16x10 [1, 0] e transposes_S10x16_S16x10_1_0)))

theorem rOut0_at (w0 : Vec F S8x16x256x784 .f32) (w : Vec F S3x16 .f32) (e : Vec F S784x16 .f32)
    (b : Fin 8) (c : Fin 16) (h : Fin 256) (n : Fin 784) : rOut0 w0 w e (ix4 b c h n)
      = FloatOps.addf (FloatOps.addf (w0 (ix4 b c h n)) (w (ix2 (0 : Fin 3) c))) (e (ix2 n c)) := by
  pointwise [rOut0]

/-! ## Five of them agree in any arithmetic: the same sums, in the same order -/

theorem out1_eq (w1 : Vec F S8x16x256x256 .f32) (w : Vec F S3x16 .f32) : rOut1 w1 w = kOut1 w1 w := by
  funext i
  rw [eq_ix4 i]
  refine Eq.trans ?_ (kOut1_at w1 w (i 0) (i 1) (i 2) (i 3)).symm
  pointwise [rOut1]

theorem out2_eq (w2 : Vec F S8x16x10x256 .f32) (w : Vec F S3x16 .f32) (e : Vec F S10x16 .f32) : rOut2 w2 w e = kOut2 w2 w e := by
  funext i
  rw [eq_ix4 i]
  refine Eq.trans ?_ (kOut2_at w2 w e (i 0) (i 1) (i 2) (i 3)).symm
  pointwise [rOut2]

theorem bias0_eq (v : Vec F S8x16x256 .f32) (w : Vec F S3x16 .f32) : rBias0 v w = kBias0 v w := by
  funext i
  rw [eq_ix3 i]
  refine Eq.trans ?_ (kBias0_at v w (i 0) (i 1) (i 2)).symm
  pointwise [rBias0]

theorem bias1_eq (v : Vec F S8x16x256 .f32) (w : Vec F S3x16 .f32) : rBias1 v w = kBias1 v w := by
  funext i
  rw [eq_ix3 i]
  refine Eq.trans ?_ (kBias1_at v w (i 0) (i 1) (i 2)).symm
  pointwise [rBias1]

theorem bias2_eq (v : Vec F S8x16x10 .f32) (w : Vec F S3x16 .f32) (e : Vec F S10x16 .f32) : rBias2 v w e = kBias2 v w e := by
  funext i
  rw [eq_ix3 i]
  refine Eq.trans ?_ (kBias2_at v w e (i 0) (i 1) (i 2)).symm
  pointwise [rBias2]

end General

/-! ## The first needs the exact sum: the kernel adds the two embeddings first -/

theorem out0_eq (w0 : Vec Ideal S8x16x256x784 .f32) (w : Vec Ideal S3x16 .f32) (e : Vec Ideal S784x16 .f32) :
    rOut0 w0 w e = kOut0 w0 w e := by
  funext i
  rw [eq_ix4 i]
  refine (rOut0_at w0 w e (i 0) (i 1) (i 2) (i 3)).trans (Eq.trans ?_ (kOut0_at w0 w e (i 0) (i 1) (i 2) (i 3)).symm)
  show (_ + _ + _ : EReal) = _ + (_ + _)
  rw [add_assoc]
  exact congrArg _ (add_comm _ _)

end Cert.ReferenceIdeal.Hand
end
-- ==== Proof.lean ====
/- The claim's parts, put together -/
module

public import proofs.«01_k».proof.Defs
public import proofs.«01_k».proof.Proof.Bits
public import proofs.«01_k».proof.Proof.Values
public import proofs.«01_k».proof.Proof.Equal
public import proofs.«01_k».proof.Proof.Gen.ReferenceIdeal.Run
public import Idealize.ShloMosaic.Lib.Quiescent
public import Idealize.ShloMosaic.Adequacy
public import Idealize.ShloMosaic.Init

@[expose] public section

noncomputable section

namespace Cert.Proof

open Idealize.ShloMosaic Idealize.SL.Sem

/-- The reference runs, its arguments end as they were, and it has no counter to leave raised. -/
theorem frame_ref : Cert.quiescent_ReferenceIdeal (hReferenceIdeal := Cert.ReferenceIdeal.Gen.facts) := fun m g _ =>
  (θ_run (Cert.ReferenceIdeal.defs (F := Ideal)) _ _).mono
    (fun r h => ⟨fun c => (h c).2.2.2.2.2.2, sem_eq_zero_of_no_sems (by decide) r.2⟩)
    (Cert.ReferenceIdeal.Value.run (F := Ideal) m g)

/-- From equal arguments, the kernel and the reference end with equal results. -/
theorem algebraic : Cert.algebraic_KernelIdeal_ReferenceIdeal (hKernelIdeal := Cert.KernelIdeal.Gen.facts)
    (hReferenceIdeal := Cert.ReferenceIdeal.Gen.facts) := fun m g m' g' _ hargs => by
  refine ⟨_, _, _, _, _, _, Cert.KernelIdeal.Hand.run_values (F := Ideal) m g, ?_⟩
  refine (θ_run (Cert.ReferenceIdeal.defs (F := Ideal)) _ _).mono (fun r h c => ?_) (Cert.ReferenceIdeal.Value.run (F := Ideal) m' g')
  obtain ⟨h0, h1, h2, h3, h4, h5, hkept⟩ := h c
  obtain ⟨a0, a1, a2, a3, a4, a5, a6, a7, a8, a9⟩ := hargs c
  rw [a0, a6, a8] at h0
  rw [a1, a6] at h1
  rw [a2, a6, a9] at h2
  rw [a3, a7] at h3
  rw [a4, a7] at h4
  rw [a5, a7, a9] at h5
  exact ⟨h0.trans (Cert.ReferenceIdeal.Hand.out0_eq _ _ _), h1.trans (Cert.ReferenceIdeal.Hand.out1_eq _ _),
    h2.trans (Cert.ReferenceIdeal.Hand.out2_eq _ _ _), h3.trans (Cert.ReferenceIdeal.Hand.bias0_eq _ _),
    h4.trans (Cert.ReferenceIdeal.Hand.bias1_eq _ _), h5.trans (Cert.ReferenceIdeal.Hand.bias2_eq _ _ _), hkept⟩

theorem claim : Cert.Claim :=
  ⟨Cert.Kernel.Gen.facts, Cert.KernelIdeal.Gen.facts, Cert.ReferenceIdeal.Gen.facts, Cert.Kernel.Hand.frame,
    fun m g _ => Cert.KernelIdeal.Hand.frame m g, frame_ref, trivial, algebraic⟩

end Cert.Proof
end
